-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![4096, 2048]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x2048 : Shape := ⟨2, ![512, 2048]⟩
abbrev S1 : Shape := ⟨1, ![1]⟩
abbrev S4096x2048 : Shape := ⟨2, ![4096, 2048]⟩
abbrev S_ : Shape := ⟨0, ![]⟩

abbrev nBuf : Space → Nat
  | .hbm => 5
  | .vmem => 5
  | .smem => 2
  | _ => 0

abbrev bufTy : (tb : Table) → Fin (tcTables nBuf tb) → BufTy
  | .hbm, ⟨0, _⟩ => ⟨S4096x512, .fp8e4m3⟩
  | .hbm, ⟨1, _⟩ => ⟨S512x2048, .fp8e4m3⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x512, .fp8e4m3⟩
  | .local _ .vmem, ⟨1, _⟩ => ⟨S512x2048, .fp8e4m3⟩
  | .local _ .vmem, ⟨2, _⟩ => ⟨S4096x2048, .f32⟩
  | .local _ .vmem, ⟨3, _⟩ => ⟨S512x2048, .f32⟩
  | .local _ .vmem, ⟨4, _⟩ => ⟨S512x2048, .f32⟩
  | .local _ .smem, ⟨0, _⟩ => ⟨S1, .f32⟩
  | .local _ .smem, ⟨1, _⟩ => ⟨S1, .f32⟩
  | _, _ => ⟨S4096x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 2 → Bool
  | ⟨0, _⟩ => true
  | ⟨1, _⟩ => false
  | _ => false

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  (ofTc nBuf bufTy 2 7 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 1

abbrev nD : Nat := 8
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_25 : BitVec 32 := 1#32
  let v38 : BitVec 32 := Scalar.muli v13 c1_i32_25
  let v39 : BitVec 32 := Scalar.addi c0_i32_26 v38
  v39.toNat
def k0_off1 (d0 : Dev nD) (c0_i32_29 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v43 : BitVec 32 := Scalar.subi v2 c0_i32_29
  let c8_i32_30 : BitVec 32 := 8#32
  let c0_i32_31 : BitVec 32 := 0#32
  let v44 : BitVec 1 := Scalar.cmpi .eq c8_i32_30 c0_i32_31
  let c1_i32_32 : BitVec 32 := 1#32
  let v45 : BitVec 32 := Scalar.select v44 c1_i32_32 c8_i32_30
  let v46 : BitVec 32 := Scalar.remsi v43 v45
  let c0_i32_34 : BitVec 32 := 0#32
  let v48 : BitVec 1 := Scalar.cmpi .slt v46 c0_i32_34
  let c0_i32_35 : BitVec 32 := 0#32
  let v49 : BitVec 1 := Scalar.cmpi .slt v45 c0_i32_35
  let v50 : BitVec 1 := Scalar.xori v48 v49
  let c0_i32_33 : BitVec 32 := 0#32
  let v47 : BitVec 1 := Scalar.cmpi .ne v46 c0_i32_33
  let v51 : BitVec 1 := Scalar.andi v50 v47
  let v52 : BitVec 32 := Scalar.addi v46 v45
  let v53 : BitVec 32 := Scalar.select v51 v52 v46
  let c512_i32 : BitVec 32 := 512#32
  let v66 : BitVec 32 := Scalar.muli v53 c512_i32
  let v67 : Index := Scalar.indexCast v66
  let c0_44 : Index := 0#32
  ![v67.toNat, 0]
def k0_dev4 (d0 : Dev nD) : Nat :=
  let c0_i32_50 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_49 : BitVec 32 := 1#32
  let v73 : BitVec 32 := Scalar.muli v24 c1_i32_49
  let v74 : BitVec 32 := Scalar.addi c0_i32_50 v73
  v74.toNat
def k0_off2 (d0 : Dev nD) (c0_i32_36 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v54 : BitVec 32 := Scalar.subi v2 c0_i32_36
  let c1_i32_37 : BitVec 32 := 1#32
  let v55 : BitVec 32 := Scalar.subi v54 c1_i32_37
  let c8_i32_38 : BitVec 32 := 8#32
  let c0_i32_39 : BitVec 32 := 0#32
  let v56 : BitVec 1 := Scalar.cmpi .eq c8_i32_38 c0_i32_39
  let c1_i32_40 : BitVec 32 := 1#32
  let v57 : BitVec 32 := Scalar.select v56 c1_i32_40 c8_i32_38
  let v58 : BitVec 32 := Scalar.remsi v55 v57
  let c0_i32_42 : BitVec 32 := 0#32
  let v60 : BitVec 1 := Scalar.cmpi .slt v58 c0_i32_42
  let c0_i32_43 : BitVec 32 := 0#32
  let v61 : BitVec 1 := Scalar.cmpi .slt v57 c0_i32_43
  let v62 : BitVec 1 := Scalar.xori v60 v61
  let c0_i32_41 : BitVec 32 := 0#32
  let v59 : BitVec 1 := Scalar.cmpi .ne v58 c0_i32_41
  let v63 : BitVec 1 := Scalar.andi v62 v59
  let v64 : BitVec 32 := Scalar.addi v58 v57
  let v65 : BitVec 32 := Scalar.select v63 v64 v58
  let c512_i32_54 : BitVec 32 := 512#32
  let v77 : BitVec 32 := Scalar.muli v65 c512_i32_54
  let v78 : Index := Scalar.indexCast v77
  let c0_55 : Index := 0#32
  ![v78.toNat, 0]
def k0_dev5 (d0 : Dev nD) : Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_60 : BitVec 32 := 1#32
  let v85 : BitVec 32 := Scalar.muli v13 c1_i32_60
  let v86 : BitVec 32 := Scalar.addi c0_i32_61 v85
  v86.toNat
def k0_dev6 (d0 : Dev nD) : Nat :=
  let c0_i32_84 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_83 : BitVec 32 := 1#32
  let v117 : BitVec 32 := Scalar.muli v24 c1_i32_83
  let v118 : BitVec 32 := Scalar.addi c0_i32_84 v117
  v118.toNat
def k0_dev7 (d0 : Dev nD) : Nat :=
  let c0_i32_95 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_94 : BitVec 32 := 1#32
  let v129 : BitVec 32 := Scalar.muli v13 c1_i32_94
  let v130 : BitVec 32 := Scalar.addi c0_i32_95 v129
  v130.toNat
def k0_dev8 (d0 : Dev nD) : Nat :=
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_117 : BitVec 32 := 1#32
  let v161 : BitVec 32 := Scalar.muli v24 c1_i32_117
  let v162 : BitVec 32 := Scalar.addi c0_i32_118 v161
  v162.toNat
def k0_dev9 (d0 : Dev nD) : Nat :=
  let c0_i32_129 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_128 : BitVec 32 := 1#32
  let v173 : BitVec 32 := Scalar.muli v13 c1_i32_128
  let v174 : BitVec 32 := Scalar.addi c0_i32_129 v173
  v174.toNat
def k0_dev10 (d0 : Dev nD) : Nat :=
  let c0_i32_151 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_150 : BitVec 32 := 1#32
  let v205 : BitVec 32 := Scalar.muli v24 c1_i32_150
  let v206 : BitVec 32 := Scalar.addi c0_i32_151 v205
  v206.toNat
def k0_dev11 (d0 : Dev nD) : Nat :=
  let c0_i32_162 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_161 : BitVec 32 := 1#32
  let v217 : BitVec 32 := Scalar.muli v13 c1_i32_161
  let v218 : BitVec 32 := Scalar.addi c0_i32_162 v217
  v218.toNat
def k0_dev12 (d0 : Dev nD) : Nat :=
  let c0_i32_184 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_183 : BitVec 32 := 1#32
  let v249 : BitVec 32 := Scalar.muli v24 c1_i32_183
  let v250 : BitVec 32 := Scalar.addi c0_i32_184 v249
  v250.toNat
def k0_dev13 (d0 : Dev nD) : Nat :=
  let c0_i32_195 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_194 : BitVec 32 := 1#32
  let v261 : BitVec 32 := Scalar.muli v13 c1_i32_194
  let v262 : BitVec 32 := Scalar.addi c0_i32_195 v261
  v262.toNat
def k0_dev14 (d0 : Dev nD) : Nat :=
  let c0_i32_217 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_216 : BitVec 32 := 1#32
  let v293 : BitVec 32 := Scalar.muli v24 c1_i32_216
  let v294 : BitVec 32 := Scalar.addi c0_i32_217 v293
  v294.toNat
def k0_dev15 (d0 : Dev nD) : Nat :=
  let c0_i32_228 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_227 : BitVec 32 := 1#32
  let v305 : BitVec 32 := Scalar.muli v13 c1_i32_227
  let v306 : BitVec 32 := Scalar.addi c0_i32_228 v305
  v306.toNat
def k0_dev16 (d0 : Dev nD) : Nat :=
  let c0_i32_250 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_249 : BitVec 32 := 1#32
  let v337 : BitVec 32 := Scalar.muli v24 c1_i32_249
  let v338 : BitVec 32 := Scalar.addi c0_i32_250 v337
  v338.toNat
def k0_dev17 (d0 : Dev nD) : Nat :=
  let c0_i32_261 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_260 : BitVec 32 := 1#32
  let v349 : BitVec 32 := Scalar.muli v13 c1_i32_260
  let v350 : BitVec 32 := Scalar.addi c0_i32_261 v349
  v350.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_262 : BitVec 32 := 1#32
  let v351 : BitVec 32 := Scalar.addi v2 c1_i32_262
  let c8_i32_263 : BitVec 32 := 8#32
  let c0_i32_264 : BitVec 32 := 0#32
  let v352 : BitVec 1 := Scalar.cmpi .eq c8_i32_263 c0_i32_264
  let c1_i32_265 : BitVec 32 := 1#32
  let v353 : BitVec 32 := Scalar.select v352 c1_i32_265 c8_i32_263
  let v354 : BitVec 32 := Scalar.remsi v351 v353
  let c0_i32_267 : BitVec 32 := 0#32
  let v356 : BitVec 1 := Scalar.cmpi .slt v354 c0_i32_267
  let c0_i32_268 : BitVec 32 := 0#32
  let v357 : BitVec 1 := Scalar.cmpi .slt v353 c0_i32_268
  let v358 : BitVec 1 := Scalar.xori v356 v357
  let c0_i32_266 : BitVec 32 := 0#32
  let v355 : BitVec 1 := Scalar.cmpi .ne v354 c0_i32_266
  let v359 : BitVec 1 := Scalar.andi v358 v355
  let v360 : BitVec 32 := Scalar.addi v354 v353
  let v361 : BitVec 32 := Scalar.select v359 v360 v354
  let c512_i32_269 : BitVec 32 := 512#32
  let v362 : BitVec 32 := Scalar.muli v361 c512_i32_269
  let v363 : Index := Scalar.indexCast v362
  let c0_270 : Index := 0#32
  ![v363.toNat, 0]
def k0_off4 (d0 : Dev nD) (c0_i32_274 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_273 : BitVec 32 := 1#32
  let v373 : BitVec 32 := Scalar.addi v2 c1_i32_273
  let v374 : BitVec 32 := Scalar.subi v373 c0_i32_274
  let c8_i32_275 : BitVec 32 := 8#32
  let c0_i32_276 : BitVec 32 := 0#32
  let v375 : BitVec 1 := Scalar.cmpi .eq c8_i32_275 c0_i32_276
  let c1_i32_277 : BitVec 32 := 1#32
  let v376 : BitVec 32 := Scalar.select v375 c1_i32_277 c8_i32_275
  let v377 : BitVec 32 := Scalar.remsi v374 v376
  let c0_i32_279 : BitVec 32 := 0#32
  let v379 : BitVec 1 := Scalar.cmpi .slt v377 c0_i32_279
  let c0_i32_280 : BitVec 32 := 0#32
  let v380 : BitVec 1 := Scalar.cmpi .slt v376 c0_i32_280
  let v381 : BitVec 1 := Scalar.xori v379 v380
  let c0_i32_278 : BitVec 32 := 0#32
  let v378 : BitVec 1 := Scalar.cmpi .ne v377 c0_i32_278
  let v382 : BitVec 1 := Scalar.andi v381 v378
  let v383 : BitVec 32 := Scalar.addi v377 v376
  let v384 : BitVec 32 := Scalar.select v382 v383 v377
  let c512_i32_288 : BitVec 32 := 512#32
  let v396 : BitVec 32 := Scalar.muli v384 c512_i32_288
  let v397 : Index := Scalar.indexCast v396
  let c0_289 : Index := 0#32
  ![v397.toNat, 0]
def k0_dev18 (d0 : Dev nD) : Nat :=
  let c0_i32_295 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_294 : BitVec 32 := 1#32
  let v403 : BitVec 32 := Scalar.muli v24 c1_i32_294
  let v404 : BitVec 32 := Scalar.addi c0_i32_295 v403
  v404.toNat
def k0_dev19 (d0 : Dev nD) : Nat :=
  let c0_i32_305 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_304 : BitVec 32 := 1#32
  let v411 : BitVec 32 := Scalar.muli v13 c1_i32_304
  let v412 : BitVec 32 := Scalar.addi c0_i32_305 v411
  v412.toNat
def k0_dev20 (d0 : Dev nD) : Nat :=
  let c0_i32_328 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_327 : BitVec 32 := 1#32
  let v443 : BitVec 32 := Scalar.muli v24 c1_i32_327
  let v444 : BitVec 32 := Scalar.addi c0_i32_328 v443
  v444.toNat
def k0_dev21 (d0 : Dev nD) : Nat :=
  let c0_i32_338 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_337 : BitVec 32 := 1#32
  let v451 : BitVec 32 := Scalar.muli v13 c1_i32_337
  let v452 : BitVec 32 := Scalar.addi c0_i32_338 v451
  v452.toNat
def k0_dev22 (d0 : Dev nD) : Nat :=
  let c0_i32_361 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_360 : BitVec 32 := 1#32
  let v483 : BitVec 32 := Scalar.muli v24 c1_i32_360
  let v484 : BitVec 32 := Scalar.addi c0_i32_361 v483
  v484.toNat
def k0_dev23 (d0 : Dev nD) : Nat :=
  let c0_i32_371 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_370 : BitVec 32 := 1#32
  let v491 : BitVec 32 := Scalar.muli v13 c1_i32_370
  let v492 : BitVec 32 := Scalar.addi c0_i32_371 v491
  v492.toNat
def k0_dev24 (d0 : Dev nD) : Nat :=
  let c0_i32_394 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_393 : BitVec 32 := 1#32
  let v523 : BitVec 32 := Scalar.muli v24 c1_i32_393
  let v524 : BitVec 32 := Scalar.addi c0_i32_394 v523
  v524.toNat
def k0_dev25 (d0 : Dev nD) : Nat :=
  let c0_i32_404 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_403 : BitVec 32 := 1#32
  let v531 : BitVec 32 := Scalar.muli v13 c1_i32_403
  let v532 : BitVec 32 := Scalar.addi c0_i32_404 v531
  v532.toNat
def k0_dev26 (d0 : Dev nD) : Nat :=
  let c0_i32_427 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_426 : BitVec 32 := 1#32
  let v563 : BitVec 32 := Scalar.muli v24 c1_i32_426
  let v564 : BitVec 32 := Scalar.addi c0_i32_427 v563
  v564.toNat
def k0_dev27 (d0 : Dev nD) : Nat :=
  let c0_i32_437 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_436 : BitVec 32 := 1#32
  let v571 : BitVec 32 := Scalar.muli v13 c1_i32_436
  let v572 : BitVec 32 := Scalar.addi c0_i32_437 v571
  v572.toNat
def k0_dev28 (d0 : Dev nD) : Nat :=
  let c0_i32_460 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_459 : BitVec 32 := 1#32
  let v603 : BitVec 32 := Scalar.muli v24 c1_i32_459
  let v604 : BitVec 32 := Scalar.addi c0_i32_460 v603
  v604.toNat
def k0_dev29 (d0 : Dev nD) : Nat :=
  let c0_i32_470 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_469 : BitVec 32 := 1#32
  let v611 : BitVec 32 := Scalar.muli v13 c1_i32_469
  let v612 : BitVec 32 := Scalar.addi c0_i32_470 v611
  v612.toNat
def k0_dev30 (d0 : Dev nD) : Nat :=
  let c0_i32_493 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_492 : BitVec 32 := 1#32
  let v643 : BitVec 32 := Scalar.muli v24 c1_i32_492
  let v644 : BitVec 32 := Scalar.addi c0_i32_493 v643
  v644.toNat
abbrev stage0_0 : Fin 1 → Memref sig .tc .vmem S4096x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x2048, .fp8e4m3⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e4m3⟩
  | .local _ .vmem, ⟨1, _⟩ => ⟨S4096x2048, .fp8e4m3⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Steps.lean ====
/- The kernel body cut into its kinds of step. Each kind is one small program over the buffers the launch gives the
   body, with the offsets and the neighbours left open; the body is their sequence, read off by unfolding. -/
module

public import proofs.«01_k».proof.Proof.Gen.KernelIdeal
public import proofs.«01_k».proof.Proof.Gen.KernelIdeal.Skeleton
public import proofs.«01_k».proof.Proof.Gen.KernelIdeal.Points

@[expose] public section

noncomputable section

namespace Cert.KernelIdeal.Hand

open Idealize.ShloMosaic Idealize.ShloMosaic.TcCoe
open Idealize.SL.Sem Cert.KernelIdeal Cert.KernelIdeal.Gen

variable {F : FTy → Type} [FloatOps F]

/-- Programs of the body. -/
abbrev BodyProg (F : FTy → Type) [FloatOps F] (α : Type) := Prog (TpuEff nD τ sig (Elt F) Λ₀ .tc) α

/-- The barrier's counter. -/
abbrev barS : Sems sig S_ := SemArray.scalar (sig.barrier 0 rfl)

/-- The rectangle of a whole 512-row buffer. -/
abbrev chunkAll : Rect S512x2048 := Rect.unit (s := S512x2048) ![0, 0] S512x2048.size inb_S512x2048_S512x2048_0_0

/-- The 512 rows of the output that start at `o`. -/
abbrev rowsAt (o : Fin 2 → Nat) (h : ∀ a, o a + S512x2048.size a ≤ S4096x2048.size a) : Rect S4096x2048 :=
  Rect.unit (s := S4096x2048) o S512x2048.size h

/-- Read the 512 rows of the output at `o`. -/
def readOut (o : Fin 2 → Nat) (h : ∀ a, o a + S512x2048.size a ≤ S4096x2048.size a) : BodyProg F (Vec F S512x2048 .f32) :=
  Prog.lift (.load (Memref.whole cc0_stg4_0) (rowsAt o h).toLoadRect (View.loadsAt_vmem h_S512x2048))

/-- Write the 512 rows of the output at `o`. -/
def writeOut (o : Fin 2 → Nat) (h : ∀ a, o a + S512x2048.size a ≤ S4096x2048.size a) (v : Vec F S512x2048 .f32) : BodyProg F PUnit :=
  Prog.lift (.store (Memref.whole cc0_stg4_0) (rowsAt o h) v Finset.univ (View.stores_vmem_bits_univ h_S512x2048 rfl) (.inl rfl))

/-- Read a whole 512-row buffer. -/
def readBuf (b : Memref sig .tc .vmem S512x2048 .f32) : BodyProg F (Vec F S512x2048 .f32) :=
  Prog.lift (.load b chunkAll.toLoadRect (View.loadsAt_vmem h_S512x2048))

/-- Give one credit to device `n`. -/
def giveCredit (n : Dev nD) : BodyProg F PUnit := semSignalWord n cc0_scratch4.sem 1#32

/-- Meet both neighbours at the barrier. -/
def meet (l r : Dev nD) : BodyProg F PUnit := do
  semSignalWord l barS.sem 1#32
  semSignalWord r barS.sem 1#32
  semWaitWord barS.sem 2#32

/-- Multiply the device's block of `x` by its block of `w` into the output. -/
def product : BodyProg F PUnit := do
  let x : Vec F S4096x512 .fp8e4m3 ← Prog.lift (.load (Memref.whole cc0_stg0_0) (Rect.unit (s := S4096x512) ![0, 0] S4096x512.size inb_S4096x512_S4096x512_0_0).toLoadRect (View.loadsAt_vmem h_S4096x512))
  let w : Vec F S512x2048 .fp8e4m3 ← Prog.lift (.load (Memref.whole cc0_stg1_0) chunkAll.toLoadRect (View.loadsAt_vmem h_S512x2048))
  let _ : Vec F S4096x2048 .f32 ← Prog.lift (.load (Memref.whole cc0_stg4_0) (Rect.unit (s := S4096x2048) ![0, 0] S4096x2048.size inb_S4096x2048_S4096x2048_0_0).toLoadRect (View.loadsAt_vmem h_S4096x2048))
  Prog.lift (.store (Memref.whole cc0_stg4_0) (Rect.unit (s := S4096x2048) ![0, 0] S4096x2048.size inb_S4096x2048_S4096x2048_0_0) (k0_pay1 x w) Finset.univ (View.stores_vmem_bits_univ h_S4096x2048 rfl) (.inl rfl))

/-- The product of the two scales. -/
def scales : BodyProg F (F .f32) := do
  let a : Elt F .f32 ← smemLoad (Memref.whole cc0_stg2_0) (Rect.unit (s := S1) ![0] S1.size inb_S1_S1_0) numel1_S1 rfl
  let b : Elt F .f32 ← smemLoad (Memref.whole cc0_stg3_0) (Rect.unit (s := S1) ![0] S1.size inb_S1_S1_0) numel1_S1 rfl
  pure (k0_pay2 a b)

/-- One exchange: put the rows at `o` in the send buffer, wait for a credit, copy to device `n`'s receive buffer, and wait
    for the copy out and for the copy in. -/
def xchg (n : Dev nD) (o : Fin 2 → Nat) (h : ∀ a, o a + S512x2048.size a ≤ S4096x2048.size a) : BodyProg F PUnit := do
  let v ← readOut o h
  let _ ← readBuf (Memref.whole cc0_scratch0)
  Prog.lift (.store (Memref.whole cc0_scratch0) chunkAll (k0_pay3 v) Finset.univ (View.stores_vmem_bits_univ h_S512x2048 rfl) (.inl rfl))
  semWaitWord cc0_scratch4.sem 1#32
  Prog.lift (.enqueueDma (Memref.whole cc0_scratch0) (.remote (Dev.tc n) (Memref.whole cc0_scratch1) (.dma cc0_scratch2.sem)) (.dma cc0_scratch3.sem) (Memref.isWhole_whole cc0_scratch0).wordExact (Memref.isWhole_whole cc0_scratch1).wordExact ⟨⟨rfl, Or.inl rfl⟩, trivial⟩)
  Prog.lift (.waitDma2 cc0_scratch2.sem (Memref.whole cc0_scratch1) (Memref.whole cc0_scratch0) (Memref.isWhole_whole cc0_scratch1).wordExact (Memref.isWhole_whole cc0_scratch0).wordExact)
  Prog.lift (.waitDma2 cc0_scratch3.sem (Memref.whole cc0_scratch0) (Memref.whole cc0_scratch1) (Memref.isWhole_whole cc0_scratch0).wordExact (Memref.isWhole_whole cc0_scratch1).wordExact)

/-- Add what arrived to the rows at `o`. -/
def accum (o : Fin 2 → Nat) (h : ∀ a, o a + S512x2048.size a ≤ S4096x2048.size a) : BodyProg F PUnit := do
  let a ← readOut o h
  let b ← readBuf (Memref.whole cc0_scratch1)
  let _ ← readOut o h
  writeOut o h (k0_pay4 a b)

/-- Scale the rows at `o` and multiply them by their sigmoid. -/
def activate (s : F .f32) (o : Fin 2 → Nat) (h : ∀ a, o a + S512x2048.size a ≤ S4096x2048.size a) : BodyProg F PUnit := do
  let a ← readOut o h
  let _ ← readOut o h
  writeOut o h (k0_pay18 s a)

/-- Put what arrived in the rows at `o`. -/
def place (o : Fin 2 → Nat) (h : ∀ a, o a + S512x2048.size a ≤ S4096x2048.size a) : BodyProg F PUnit := do
  let b ← readBuf (Memref.whole cc0_scratch1)
  let _ ← readOut o h
  writeOut o h b

/-- One step of the reduce-scatter: exchange, add, give the credit back. -/
def rsStep (n l : Dev nD) (o o' : Fin 2 → Nat) (h : ∀ a, o a + S512x2048.size a ≤ S4096x2048.size a)
    (h' : ∀ a, o' a + S512x2048.size a ≤ S4096x2048.size a) : BodyProg F PUnit := do
  xchg n o h
  accum o' h'
  giveCredit l

/-- One step of the all-gather but for the credit: exchange, place. -/
def agStep (n : Dev nD) (o o' : Fin 2 → Nat) (h : ∀ a, o a + S512x2048.size a ≤ S4096x2048.size a)
    (h' : ∀ a, o' a + S512x2048.size a ≤ S4096x2048.size a) : BodyProg F PUnit := do
  xchg n o h
  place o' h'

/-- The body's reduce-scatter, on the printed offsets and neighbours. -/
def reduceScatter (d : Dev nD) : BodyProg F PUnit := do
  rsStep ⟨k0_dev4 d, k0_dev4_lt d⟩ ⟨k0_dev5 d, k0_dev5_lt d⟩ (k0_off1 d 0#32) (k0_off2 d 0#32) (k0_off1_inb d 0) (k0_off2_inb d 0)
  rsStep ⟨k0_dev6 d, k0_dev6_lt d⟩ ⟨k0_dev7 d, k0_dev7_lt d⟩ (k0_off1 d 1#32) (k0_off2 d 1#32) (k0_off1_inb d 1) (k0_off2_inb d 1)
  rsStep ⟨k0_dev8 d, k0_dev8_lt d⟩ ⟨k0_dev9 d, k0_dev9_lt d⟩ (k0_off1 d 2#32) (k0_off2 d 2#32) (k0_off1_inb d 2) (k0_off2_inb d 2)
  rsStep ⟨k0_dev10 d, k0_dev10_lt d⟩ ⟨k0_dev11 d, k0_dev11_lt d⟩ (k0_off1 d 3#32) (k0_off2 d 3#32) (k0_off1_inb d 3) (k0_off2_inb d 3)
  rsStep ⟨k0_dev12 d, k0_dev12_lt d⟩ ⟨k0_dev13 d, k0_dev13_lt d⟩ (k0_off1 d 4#32) (k0_off2 d 4#32) (k0_off1_inb d 4) (k0_off2_inb d 4)
  rsStep ⟨k0_dev14 d, k0_dev14_lt d⟩ ⟨k0_dev15 d, k0_dev15_lt d⟩ (k0_off1 d 5#32) (k0_off2 d 5#32) (k0_off1_inb d 5) (k0_off2_inb d 5)
  rsStep ⟨k0_dev16 d, k0_dev16_lt d⟩ ⟨k0_dev17 d, k0_dev17_lt d⟩ (k0_off1 d 6#32) (k0_off2 d 6#32) (k0_off1_inb d 6) (k0_off2_inb d 6)

/-- The body's all-gather, on the printed offsets and neighbours. The last step gives no credit. -/
def allGather (d : Dev nD) : BodyProg F PUnit := do
  agStep ⟨k0_dev18 d, k0_dev18_lt d⟩ (k0_off4 d 0#32) (k0_off1 d 0#32) (k0_off4_inb d 0) (k0_off1_inb d 0)
  giveCredit ⟨k0_dev19 d, k0_dev19_lt d⟩
  agStep ⟨k0_dev20 d, k0_dev20_lt d⟩ (k0_off4 d 1#32) (k0_off1 d 1#32) (k0_off4_inb d 1) (k0_off1_inb d 1)
  giveCredit ⟨k0_dev21 d, k0_dev21_lt d⟩
  agStep ⟨k0_dev22 d, k0_dev22_lt d⟩ (k0_off4 d 2#32) (k0_off1 d 2#32) (k0_off4_inb d 2) (k0_off1_inb d 2)
  giveCredit ⟨k0_dev23 d, k0_dev23_lt d⟩
  agStep ⟨k0_dev24 d, k0_dev24_lt d⟩ (k0_off4 d 3#32) (k0_off1 d 3#32) (k0_off4_inb d 3) (k0_off1_inb d 3)
  giveCredit ⟨k0_dev25 d, k0_dev25_lt d⟩
  agStep ⟨k0_dev26 d, k0_dev26_lt d⟩ (k0_off4 d 4#32) (k0_off1 d 4#32) (k0_off4_inb d 4) (k0_off1_inb d 4)
  giveCredit ⟨k0_dev27 d, k0_dev27_lt d⟩
  agStep ⟨k0_dev28 d, k0_dev28_lt d⟩ (k0_off4 d 5#32) (k0_off1 d 5#32) (k0_off4_inb d 5) (k0_off1_inb d 5)
  giveCredit ⟨k0_dev29 d, k0_dev29_lt d⟩
  agStep ⟨k0_dev30 d, k0_dev30_lt d⟩ (k0_off4 d 6#32) (k0_off1 d 6#32) (k0_off4_inb d 6) (k0_off1_inb d 6)

/-- The body: barrier, product, the first credit, the scales, reduce-scatter, activation, all-gather. -/
def steps (d : Dev nD) : BodyProg F PUnit := do
  meet ⟨k0_dev1 d, k0_dev1_lt d⟩ ⟨k0_dev2 d, k0_dev2_lt d⟩
  product
  giveCredit ⟨k0_dev3 d, k0_dev3_lt d⟩
  let s ← scales
  reduceScatter d
  activate s (k0_off3 d) (k0_off3_inb d)
  allGather d

set_option maxRecDepth 65536 in
/-- The body is the sequence of its steps. -/
theorem body_eq_steps : cc0_body (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_scratch0) (Memref.isWhole_whole _) (Memref.whole cc0_scratch1) (Memref.isWhole_whole _) cc0_scratch2 cc0_scratch3 cc0_scratch4
    = Prog.op .deviceId steps := rfl

end Cert.KernelIdeal.Hand

end
-- ==== Proof.Common.lean ====
/- The ring of eight devices: its cells, what each buffer holds at each step, the schedule of the counters, what each device
   owes, and the order in which the counters may be waited on. -/
module

public import proofs.«01_k».proof.Proof.Steps
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-! ## The resource algebra -/

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## The ring -/

set_option backward.proofsInPublic true in
/-- The device to the right. -/
def nxt (c : Dev nD) : Dev nD := ⟨(c.val + 1) % 8, Nat.mod_lt _ (by decide)⟩
set_option backward.proofsInPublic true in
/-- The device to the left. -/
def prv (c : Dev nD) : Dev nD := ⟨(c.val + 7) % 8, Nat.mod_lt _ (by decide)⟩

theorem prv_nxt (c : Dev nD) : prv (nxt c) = c := by revert c; decide
theorem nxt_prv (c : Dev nD) : nxt (prv c) = c := by revert c; decide
theorem nxt_ne_prv (c : Dev nD) : nxt c ≠ prv c := by revert c; decide

/-- One step around the ring. -/
def ring : Dev nD ≃ Dev nD := ⟨nxt, prv, prv_nxt, nxt_prv⟩

/-! ## The cells -/

abbrev barCell (c : Dev nD) : GSem nD τ sig := ((c : Thread nD τ), .reg barS.sem)
abbrev crdCell (c : Dev nD) : GSem nD τ sig := ((c : Thread nD τ), .reg cc0_scratch4.sem)
abbrev sndCell (c : Dev nD) : GSem nD τ sig := ((c : Thread nD τ), .dma cc0_scratch2.sem)
abbrev rcvCell (c : Dev nD) : GSem nD τ sig := ((c : Thread nD τ), .dma cc0_scratch3.sem)

theorem crd_ne_bar : (SemLoc.reg cc0_scratch4.sem : SemLoc sig) ≠ .reg barS.sem := by decide
theorem snd_ne_bar : (SemLoc.dma cc0_scratch2.sem : SemLoc sig) ≠ .reg barS.sem := fun h => by cases h
theorem rcv_ne_bar : (SemLoc.dma cc0_scratch3.sem : SemLoc sig) ≠ .reg barS.sem := fun h => by cases h
theorem snd_ne_crd : (SemLoc.dma cc0_scratch2.sem : SemLoc sig) ≠ .reg cc0_scratch4.sem := fun h => by cases h
theorem rcv_ne_crd : (SemLoc.dma cc0_scratch3.sem : SemLoc sig) ≠ .reg cc0_scratch4.sem := fun h => by cases h
theorem snd_ne_rcv : (SemLoc.dma cc0_scratch2.sem : SemLoc sig) ≠ .dma cc0_scratch3.sem := by decide

/-- The size of one copy, as its counters count it. -/
abbrev N : ℕ := (Memref.whole cc0_scratch1 : Memref sig .tc .vmem S512x2048 .f32).view.dmaCredit
theorem N_pos : 0 < N := View.dmaCredit_pos _ (by decide)

/-! ## What the buffers hold -/

/-- Contents of the output's staging buffer. -/
abbrev OutC (F : FTy → Type) := (cc0_stg4_0 : Ref sig .tc).ty.Contents (Elt F)
/-- Contents of the send and of the receive buffer. -/
abbrev SndC (F : FTy → Type) := (cc0_scratch0 : Ref sig .tc).ty.Contents (Elt F)
abbrev RcvC (F : FTy → Type) := (cc0_scratch1 : Ref sig .tc).ty.Contents (Elt F)

/-- Where chunk `j` (modulo eight) of the output starts. -/
def rowOff (j : ℕ) : Fin 2 → ℕ := ![512 * (j % 8), 0]

theorem rowOff_inb (j : ℕ) : ∀ a, rowOff j a + S512x2048.size a ≤ S4096x2048.size a := by
  intro a
  have h : j % 8 < 8 := Nat.mod_lt _ (by decide)
  fin_cases a
  · show 512 * (j % 8) + 512 ≤ 4096; omega
  · show 0 + 2048 ≤ 2048; omega

/-- Chunk `j` of the output. -/
def chunk (j : ℕ) (X : OutC F) : Vec F S512x2048 .f32 :=
  (Memref.whole cc0_stg4_0 : Memref sig .tc .vmem S4096x2048 .f32).view.readAt (Elt F) (rowsAt (rowOff j) (rowOff_inb j)).toLoadRect X

/-- The output with chunk `j` replaced. -/
def setChunk (j : ℕ) (X : OutC F) (v : Vec F S512x2048 .f32) : OutC F :=
  ((Memref.whole cc0_stg4_0 : Memref sig .tc .vmem S4096x2048 .f32).access (rowsAt (rowOff j) (rowOff_inb j)) : View sig .tc _ _ _).write (Elt F) X v Finset.univ

section Contents
variable (m : (ℓ : Loc nD τ sig) → Buf (Elt F) ℓ)

/-- The device's block of `x`, of `w`, and the two scales, as staged. -/
def xstg (c : Dev nD) : (cc0_stg0_0 : Ref sig .tc).ty.Contents (Elt F) :=
  (win0_0.blk (0 : Fin 1)).view.read (Elt F) (m ((c : Thread nD τ).loc main_arg0))
def wstg (c : Dev nD) : (cc0_stg1_0 : Ref sig .tc).ty.Contents (Elt F) :=
  (win0_1.blk (0 : Fin 1)).view.read (Elt F) (m ((c : Thread nD τ).loc main_arg1))
def sxstg (c : Dev nD) : (cc0_stg2_0 : Ref sig .tc).ty.Contents (Elt F) :=
  (win0_2.blk (0 : Fin 1)).view.read (Elt F) (m ((c : Thread nD τ).loc main_arg2))
def swstg (c : Dev nD) : (cc0_stg3_0 : Ref sig .tc).ty.Contents (Elt F) :=
  (win0_3.blk (0 : Fin 1)).view.read (Elt F) (m ((c : Thread nD τ).loc main_arg3))

/-- The product of the device's two scales, as the body reads it. -/
def scale (c : Dev nD) : F .f32 :=
  k0_pay2 (((Memref.whole cc0_stg2_0 : Memref sig .tc .smem S1 .f32).access (Rect.unit (s := S1) ![0] S1.size inb_S1_S1_0)).read (Elt F) (sxstg m c)
      (Shape.Idx.first (numel1_S1.symm ▸ Nat.one_pos)))
    (((Memref.whole cc0_stg3_0 : Memref sig .tc .smem S1 .f32).access (Rect.unit (s := S1) ![0] S1.size inb_S1_S1_0)).read (Elt F) (swstg m c)
      (Shape.Idx.first (numel1_S1.symm ▸ Nat.one_pos)))

/-- The output after what arrived at step `s` has been added to (the first seven steps) or put in (the last seven) chunk `j`. -/
def absorb (s j : ℕ) (X : OutC F) (b : Vec F S512x2048 .f32) : OutC F :=
  setChunk j X (if s < 7 then k0_pay4 (chunk j X) b else b)

/-- The output after step `s`: the activation of chunk `j` follows step 6. -/
def finish (s : ℕ) (sc : F .f32) (j : ℕ) (X : OutC F) : OutC F :=
  if s = 6 then setChunk j X (k0_pay18 sc (chunk j X)) else X

/-- The output of device `c` before step `s`: at step `s` it sends chunk `c - s` and receives chunk `c - s - 1`. -/
def outC : ℕ → Dev nD → OutC F
  | 0, c => k0_pay1 (xstg m c) (wstg m c)
  | s + 1, c => finish s (scale m c) (c.val + 15 - s)
      (absorb s (c.val + 15 - s) (outC s c) (k0_pay3 (chunk ((prv c).val + 16 - s) (outC s (prv c)))))

/-- What device `c` sends at step `s`. -/
def sent (s : ℕ) (c : Dev nD) : Vec F S512x2048 .f32 := k0_pay3 (chunk (c.val + 16 - s) (outC m s c))

theorem outC_succ (s : ℕ) (c : Dev nD) : outC m (s + 1) c
    = finish s (scale m c) (c.val + 15 - s) (absorb s (c.val + 15 - s) (outC m s c) (sent m s (prv c))) := rfl

end Contents

/-! ## Buffers held -/

/-- The receive buffer, the send buffer and the output of device `c`, held whole. -/
abbrev rcvPts (c : Dev nD) (f : RcvC F) : sProp 𝕄 := ((c : Thread nD τ).loc cc0_scratch1) ↦{fullShare} f
abbrev sndPts (c : Dev nD) (f : SndC F) : sProp 𝕄 := ((c : Thread nD τ).loc cc0_scratch0) ↦{fullShare} f
abbrev outPts (c : Dev nD) (f : OutC F) : sProp 𝕄 := ((c : Thread nD τ).loc cc0_stg4_0) ↦{fullShare} f

/-! ## The schedule -/

section Schedule
variable (m : (ℓ : Loc nD τ sig) → Buf (Elt F) ℓ)

/-- The credit of round `r` hands over the right neighbour's receive buffer, that neighbour standing at round `r` of it. -/
def crdPay (c : Dev nD) (r : ℕ) : sProp 𝕄 := iprop((∃ f, rcvPts (F := F) (nxt c) f) ∗ reached ER (rcvCell (nxt c)) r)
/-- The copy of round `r` fills the receive buffer, its sender having used its credit of that round. -/
def rcvPay (c : Dev nD) (r : ℕ) : sProp 𝕄 := iprop(rcvPts c (sent m r (prv c)) ∗ reached ER (crdCell (prv c)) (r + 1))
/-- Sent, the send buffer is the device's again. -/
def sndPay (c : Dev nD) : sProp 𝕄 := iprop(∃ f, sndPts (F := F) c f)

abbrev IsBar (g : GSem nD τ sig) : Prop := g.1.2 = .tc ∧ g.2 = .reg barS.sem
abbrev IsXfer (g : GSem nD τ sig) : Prop := g.1.2 = .tc ∧ (g.2 = .reg cc0_scratch4.sem ∨ g.2 = .dma cc0_scratch2.sem ∨ g.2 = .dma cc0_scratch3.sem)

/-- A barrier cell has one round with two duties of one unit; a credit cell fourteen rounds of one unit; a send or receive
    cell fourteen rounds of one copy. -/
def sched : Rounds.Schedule (GSem nD τ sig) Bool 𝕄 where
  duties g r := if r = 0 ∧ IsBar g then Finset.univ else if r < 14 ∧ IsXfer g then {false} else ∅
  unitless _ := False
  amount g _ _ := if g.2 = .reg barS.sem ∨ g.2 = .reg cc0_scratch4.sem then 1 else N
  payload g r _ :=
    if g.2 = .reg cc0_scratch4.sem then crdPay g.1.1 r
    else if g.2 = .dma cc0_scratch3.sem then rcvPay m g.1.1 r
    else if g.2 = .dma cc0_scratch2.sem then sndPay g.1.1
    else iprop(emp)
  amount_pos g _ _ _ := by
    by_cases h : g.2 = .reg barS.sem ∨ g.2 = .reg cc0_scratch4.sem
    · rw [if_pos h]; exact Nat.one_pos
    · rw [if_neg h]; exact N_pos

instance sched_payload_storable (g : GSem nD τ sig) (r : ℕ) (d : Bool) :
    BI.Storable (upEmb : UEmb _ 𝕄) ((sched (F := F) m).payload g r d) := by
  show BI.Storable upEmb (if g.2 = .reg cc0_scratch4.sem then crdPay g.1.1 r
    else if g.2 = .dma cc0_scratch3.sem then rcvPay m g.1.1 r
    else if g.2 = .dma cc0_scratch2.sem then sndPay g.1.1
    else iprop(emp))
  unfold crdPay rcvPay sndPay
  (repeat' split) <;> infer_instance

variable (c : Dev nD)

theorem duties_bar : (sched m).duties (barCell c) 0 = Finset.univ := by dsimp only [sched]; exact if_pos ⟨rfl, rfl, rfl⟩
theorem duties_xfer (sm : SemLoc sig) (hb : sm ≠ .reg barS.sem) (hx : sm = .reg cc0_scratch4.sem ∨ sm = .dma cc0_scratch2.sem ∨ sm = .dma cc0_scratch3.sem)
    (r : ℕ) (hr : r < 14) : (sched m).duties ((c : Thread nD τ), sm) r = {false} := by
  dsimp only [sched]; rw [if_neg (fun h => hb h.2.2), if_pos ⟨hr, rfl, hx⟩]
theorem duties_crd (r : ℕ) (hr : r < 14) : (sched m).duties (crdCell c) r = {false} := duties_xfer m c _ crd_ne_bar (.inl rfl) r hr
theorem duties_snd (r : ℕ) (hr : r < 14) : (sched m).duties (sndCell c) r = {false} := duties_xfer m c _ snd_ne_bar (.inr (.inl rfl)) r hr
theorem duties_rcv (r : ℕ) (hr : r < 14) : (sched m).duties (rcvCell c) r = {false} := duties_xfer m c _ rcv_ne_bar (.inr (.inr rfl)) r hr
theorem duties_bar_later : ∀ r, 1 ≤ r → (sched m).duties (barCell c) r = ∅ := fun r hr => by
  dsimp only [sched]
  rw [if_neg (fun h => by omega), if_neg]
  rintro ⟨-, -, h | h | h⟩
  · exact crd_ne_bar h.symm
  · exact snd_ne_bar h.symm
  · exact rcv_ne_bar h.symm
theorem duties_later (sm : SemLoc sig) (hb : sm ≠ .reg barS.sem) : ∀ r, 14 ≤ r → (sched m).duties ((c : Thread nD τ), sm) r = ∅ := fun r hr => by
  dsimp only [sched]; rw [if_neg (fun h => hb h.2.2), if_neg (fun h => by omega)]

theorem amount_bar (r : ℕ) (d : Bool) : (sched m).amount (barCell c) r d = 1 := by dsimp only [sched]; exact if_pos (.inl rfl)
theorem amount_crd (r : ℕ) (d : Bool) : (sched m).amount (crdCell c) r d = 1 := by dsimp only [sched]; exact if_pos (.inr rfl)
theorem amount_snd (r : ℕ) (d : Bool) : (sched m).amount (sndCell c) r d = N := by
  dsimp only [sched]; exact if_neg (fun h => h.elim snd_ne_bar snd_ne_crd)
theorem amount_rcv (r : ℕ) (d : Bool) : (sched m).amount (rcvCell c) r d = N := by
  dsimp only [sched]; exact if_neg (fun h => h.elim rcv_ne_bar rcv_ne_crd)

theorem expect_bar : (sched m).expect (barCell c) 0 = 2 := by
  unfold Schedule.expect Schedule.amountOf
  rw [duties_bar, Finset.sum_congr rfl fun d _ => amount_bar m c 0 d, Finset.sum_const, Finset.card_univ, Fintype.card_bool, smul_eq_mul]
theorem expect_crd (r : ℕ) (hr : r < 14) : (sched m).expect (crdCell c) r = 1 := by
  unfold Schedule.expect Schedule.amountOf; rw [duties_crd m c r hr, Finset.sum_singleton, amount_crd]
theorem expect_snd (r : ℕ) (hr : r < 14) : (sched m).expect (sndCell c) r = N := by
  unfold Schedule.expect Schedule.amountOf; rw [duties_snd m c r hr, Finset.sum_singleton, amount_snd]
theorem expect_rcv (r : ℕ) (hr : r < 14) : (sched m).expect (rcvCell c) r = N := by
  unfold Schedule.expect Schedule.amountOf; rw [duties_rcv m c r hr, Finset.sum_singleton, amount_rcv]

theorem payload_bar (r : ℕ) (d : Bool) : (sched m).payload (barCell c) r d = iprop(emp) := by
  dsimp only [sched]; rw [if_neg crd_ne_bar.symm, if_neg rcv_ne_bar.symm, if_neg snd_ne_bar.symm]
theorem payload_crd (r : ℕ) (d : Bool) : (sched m).payload (crdCell c) r d = crdPay c r := by dsimp only [sched]; rw [if_pos rfl]
theorem payload_snd (r : ℕ) (d : Bool) : (sched m).payload (sndCell c) r d = sndPay c := by
  dsimp only [sched]; rw [if_neg snd_ne_crd, if_neg snd_ne_rcv, if_pos rfl]
theorem payload_rcv (r : ℕ) (d : Bool) : (sched m).payload (rcvCell c) r d = rcvPay m c r := by
  dsimp only [sched]; rw [if_neg rcv_ne_crd, if_pos rfl]

theorem rest_crd (r : ℕ) (hr : r < 14) : bigSep ((sched m).duties (crdCell c) r \ ∅) (fun d => (sched m).payload (crdCell c) r d) = crdPay c r := by
  rw [Finset.sdiff_empty, duties_crd m c r hr, bigSep_singleton, payload_crd]
theorem rest_snd (r : ℕ) (hr : r < 14) : bigSep ((sched m).duties (sndCell c) r \ ∅) (fun d => (sched m).payload (sndCell c) r d) = sndPay c := by
  rw [Finset.sdiff_empty, duties_snd m c r hr, bigSep_singleton, payload_snd]
theorem rest_rcv (r : ℕ) (hr : r < 14) : bigSep ((sched m).duties (rcvCell c) r \ ∅) (fun d => (sched m).payload (rcvCell c) r d) = rcvPay m c r := by
  rw [Finset.sdiff_empty, duties_rcv m c r hr, bigSep_singleton, payload_rcv]

end Schedule

/-! ## What a device owes, and the order of the waits -/

theorem Ico_peel {s : ℕ} (h : s < 14) : Finset.Ico s 14 = insert s (Finset.Ico (s + 1) 14) := by
  ext k; simp only [Finset.mem_insert, Finset.mem_Ico]; omega
theorem notMem_Ico_succ (s : ℕ) : s ∉ Finset.Ico (s + 1) 14 := by simp only [Finset.mem_Ico]; omega

/-- The copies device `c` still has to make from step `s` on, to its right neighbour. -/
def oweR (c : Dev nD) (s : ℕ) : CellTallies nD τ sig ℕ := ∑ k ∈ Finset.Ico s 14, tallyAt (rcvCell (nxt c)) k N
/-- The credits device `c` still has to give from round `s` on, to its left neighbour. -/
def oweC (c : Dev nD) (s : ℕ) : CellTallies nD τ sig ℕ := ∑ k ∈ Finset.Ico s 14, tallyAt (crdCell (prv c)) k 1

theorem oweR_peel (c : Dev nD) (s : ℕ) (h : s < 14) : oweR c s = oweR c (s + 1) + tallyAt (rcvCell (nxt c)) s N := by
  unfold oweR; rw [Ico_peel h, Finset.sum_insert (notMem_Ico_succ s), add_comm]
theorem oweC_peel (c : Dev nD) (s : ℕ) (h : s < 14) : oweC c s = oweC c (s + 1) + tallyAt (crdCell (prv c)) s 1 := by
  unfold oweC; rw [Ico_peel h, Finset.sum_insert (notMem_Ico_succ s), add_comm]
theorem oweR_done (c : Dev nD) : oweR c 14 = 0 := by unfold oweR; rw [Finset.Ico_self, Finset.sum_empty]
theorem oweC_done (c : Dev nD) (s : ℕ) (h : 14 ≤ s) : oweC c s = 0 := by unfold oweC; rw [Finset.Ico_eq_empty_of_le h, Finset.sum_empty]

/-- What a device owes at the launch: every copy, every credit, and a unit at each neighbour's barrier. -/
def O₀ (c : Dev nD) : CellTallies nD τ sig ℕ :=
  ((oweR c 0 + oweC c 0) + tallyAt (barCell (nxt c)) 0 1) + tallyAt (barCell (prv c)) 0 1

/-- A tally of one cell summed over rounds, at a cell and a round. -/
theorem sum_tally_apply (g : GSem nD τ sig) (n s : ℕ) (g' : GSem nD τ sig) (u : ℕ) :
    (∑ k ∈ Finset.Ico s 14, (tallyAt g k n : CellTallies nD τ sig ℕ)) g' u = if g' = g ∧ u ∈ Finset.Ico s 14 then n else 0 := by
  rw [Finset.sum_apply, Finsupp.finset_sum_apply]
  simp only [tallyAt_apply]
  by_cases hg : g' = g
  · subst hg
    simp only [true_and]
    by_cases hu : u ∈ Finset.Ico s 14
    · rw [if_pos hu, Finset.sum_ite_eq, if_pos hu]
    · rw [if_neg hu, Finset.sum_ite_eq, if_neg hu]
  · simp [hg]

theorem oweR_apply (c : Dev nD) (s : ℕ) (g : GSem nD τ sig) (u : ℕ) :
    oweR c s g u = if g = rcvCell (nxt c) ∧ u ∈ Finset.Ico s 14 then N else 0 := sum_tally_apply _ _ _ _ _
theorem oweC_apply (c : Dev nD) (s : ℕ) (g : GSem nD τ sig) (u : ℕ) :
    oweC c s g u = if g = crdCell (prv c) ∧ u ∈ Finset.Ico s 14 then 1 else 0 := sum_tally_apply _ _ _ _ _

/-- The rounds a wait of a cell may be for. -/
def L (g : GSem nD τ sig) : Finset ℕ := if g.1.2 = .tc then Finset.range 14 else ∅
/-- The order: the pipeline's and the send cells first, then the barrier, then credit and receive cells by turns. -/
def lv (g : GSem nD τ sig) (u : ℕ) : ℕ :=
  if g.2 = .reg barS.sem then 1 else if g.2 = .reg cc0_scratch4.sem then 2 * u + 2 else if g.2 = .dma cc0_scratch3.sem then 2 * u + 3 else 0

theorem L_of_ne (g : GSem nD τ sig) (h : g.1.2 ≠ .tc) : L g = ∅ := if_neg h
theorem L_tc (c : Dev nD) (sm : SemLoc sig) : L ((c : Thread nD τ), sm) = Finset.range 14 := if_pos rfl

theorem lv_bar (c : Dev nD) (u : ℕ) : lv (barCell c) u = 1 := if_pos rfl
theorem lv_crd (c : Dev nD) (u : ℕ) : lv (crdCell c) u = 2 * u + 2 := by unfold lv; rw [if_neg crd_ne_bar, if_pos rfl]
theorem lv_rcv (c : Dev nD) (u : ℕ) : lv (rcvCell c) u = 2 * u + 3 := by unfold lv; rw [if_neg rcv_ne_bar, if_neg rcv_ne_crd, if_pos rfl]
theorem lv_dma (c : Dev nD) (q : DmaSem sig) (hq : SemLoc.dma q ≠ .dma cc0_scratch3.sem) (u : ℕ) : lv ((c : Thread nD τ), .dma q) u = 0 := by
  unfold lv; rw [if_neg (fun h => by cases h), if_neg (fun h => by cases h), if_neg hq]

/-- Where a device that has made `s` copies and given `s'` credits owes. -/
theorem owe_pos {c : Dev nD} {s s' : ℕ} {g : GSem nD τ sig} {u : ℕ} (h : 0 < (oweR c s + oweC c s') g u) :
    (g = rcvCell (nxt c) ∧ s ≤ u ∧ u < 14) ∨ (g = crdCell (prv c) ∧ s' ≤ u ∧ u < 14) := by
  rw [Pi.add_apply, Finsupp.add_apply, oweR_apply, oweC_apply] at h
  by_cases h1 : g = rcvCell (nxt c) ∧ u ∈ Finset.Ico s 14
  · exact .inl ⟨h1.1, Finset.mem_Ico.mp h1.2⟩
  · by_cases h2 : g = crdCell (prv c) ∧ u ∈ Finset.Ico s' 14
    · exact .inr ⟨h2.1, Finset.mem_Ico.mp h2.2⟩
    · rw [if_neg h1, if_neg h2] at h; exact absurd h (Nat.lt_irrefl 0)

/-- A wait of round `u` at level `b`, owing the copies from `s` on and the credits from `s'` on, all of higher level. -/
theorem mayWait_of (c : Dev nD) (sm : SemLoc sig) (u b s s' : ℕ) (hu : u < 14) (hb : lv ((c : Thread nD τ), sm) u ≤ b)
    (hs : b < 2 * s + 3) (hs' : b < 2 * s' + 2) :
    (levAts L lv : sProp 𝕄) ⊢ MayWait (c : Thread nD τ) sm u (oweR c s + oweC c s') :=
  MayOwe.of_cut (L := L) (lev := lv) b (fun p hp => by rw [Finset.mem_singleton.mp hp, L_tc]; exact Finset.mem_range.mpr hu)
    (fun g v hg => by
      rcases owe_pos hg with ⟨rfl, -, h⟩ | ⟨rfl, -, h⟩ <;> (rw [L_tc]; exact Finset.mem_range.mpr h))
    (fun p hp => by rw [Finset.mem_singleton.mp hp]; exact hb)
    (fun g v hg => by
      rcases owe_pos hg with ⟨rfl, h, -⟩ | ⟨rfl, h, -⟩
      · rw [lv_rcv]; omega
      · rw [lv_crd]; omega)

/-- Where a device owes at the launch. -/
theorem O₀_pos {c : Dev nD} {g : GSem nD τ sig} {u : ℕ} (h : 0 < O₀ c g u) :
    u < 14 ∧ (g = rcvCell (nxt c) ∨ g = crdCell (prv c) ∨ g = barCell (nxt c) ∨ g = barCell (prv c)) := by
  unfold O₀ at h
  rw [Pi.add_apply, Finsupp.add_apply, Pi.add_apply, Finsupp.add_apply, tallyAt_apply, tallyAt_apply] at h
  by_cases h1 : 0 < (oweR c 0 + oweC c 0) g u
  · rcases owe_pos h1 with ⟨rfl, -, h⟩ | ⟨rfl, -, h⟩
    · exact ⟨h, .inl rfl⟩
    · exact ⟨h, .inr (.inl rfl)⟩
  · by_cases h2 : g = barCell (nxt c) ∧ u = 0
    · exact ⟨by omega, .inr (.inr (.inl h2.1))⟩
    · by_cases h3 : g = barCell (prv c) ∧ u = 0
      · exact ⟨by omega, .inr (.inr (.inr h3.1))⟩
      · rw [if_neg h2, if_neg h3] at h; omega

/-- The pipeline's own waits come before all the ring's. -/
theorem mayWait_stage (c : Dev nD) (q : DmaSem sig) (hq : SemLoc.dma q ≠ .dma cc0_scratch3.sem) (O : CellTallies nD τ sig ℕ) (hO : O = O₀ c ∨ O = 0) :
    (levAts L lv : sProp 𝕄) ⊢ MayWait (c : Thread nD τ) (.dma q) 0 O := by
  rcases hO with rfl | rfl
  · refine MayOwe.of_cut (L := L) (lev := lv) 0 (fun p hp => by rw [Finset.mem_singleton.mp hp, L_tc]; exact Finset.mem_range.mpr (Nat.succ_pos 13))
      (fun g u hg => by
        obtain ⟨hu, rfl | rfl | rfl | rfl⟩ := O₀_pos hg <;> (rw [L_tc]; exact Finset.mem_range.mpr hu))
      (fun p hp => by rw [Finset.mem_singleton.mp hp, lv_dma c q hq])
      (fun g u hg => by
        obtain ⟨hu, rfl | rfl | rfl | rfl⟩ := O₀_pos hg
        · rw [lv_rcv]; omega
        · rw [lv_crd]; omega
        · rw [lv_bar]; omega
        · rw [lv_bar]; omega)
  · rw [MayWait_zero]; iintro -; iempintro

/-- A conjunction over the rounds from `s` on, its first peeled off. -/
theorem bigSep_Ico_peel {s : ℕ} (h : s < 14) (Φ : ℕ → sProp 𝕄) :
    bigSep (Finset.Ico s 14) Φ = iprop(Φ s ∗ bigSep (Finset.Ico (s + 1) 14) Φ) := by
  rw [Ico_peel h, bigSep_insert (notMem_Ico_succ s)]; rfl

end Cert.KernelIdeal.Hand

end
-- ==== Proof.Chunks.lean ====
/- The eight chunks of the output's buffer, and what each holds after the fourteen steps: the activated sum of all devices'
   products, whatever the float values are. -/
module

public import proofs.«01_k».proof.Proof.Common
public import Idealize.ShloMosaic.Lib.Pipeline.Value

@[expose] public section

noncomputable section

namespace Cert.KernelIdeal.Hand

open Idealize.ShloMosaic Idealize.ShloMosaic.TcCoe
open Cert.KernelIdeal Cert.KernelIdeal.Gen

variable {F : FTy → Type} [FloatOps F]

/-! ## Reading and writing a chunk -/

/-- Where element `i` of chunk `j` stands in the output. -/
def pos (j : ℕ) (i : S512x2048.Idx) : S4096x2048.Idx := (rowsAt (rowOff j) (rowOff_inb j)).emb i

theorem pos_row (j : ℕ) (i : S512x2048.Idx) : (pos j i 0).val = 512 * (j % 8) + (i 0).val := by
  show 512 * (j % 8) + 1 * (i 0).val = _; omega

theorem pos_col (j : ℕ) (i : S512x2048.Idx) : (pos j i 1).val = (i 1).val := by
  show 0 + 1 * (i 1).val = _; omega

theorem chunk_apply (j : ℕ) (X : OutC F) (i : S512x2048.Idx) : chunk j X i = X (pos j i) := rfl

theorem chunk_congr {j k : ℕ} (h : j % 8 = k % 8) (X : OutC F) : chunk j X = chunk k X := by
  funext i
  show X (pos j i) = X (pos k i)
  refine congrArg X (funext fun a => Fin.ext ?_)
  match a with
  | ⟨0, _⟩ => exact (pos_row j i).trans ((congrArg (512 * · + (i 0).val) h).trans (pos_row k i).symm)
  | ⟨1, _⟩ => exact (pos_col j i).trans (pos_col k i).symm

/-- A chunk just written is what was written; -/
theorem chunk_setChunk (j : ℕ) (X : OutC F) (v : Vec F S512x2048 .f32) : chunk j (setChunk j X v) = v :=
  View.read_write_univ (v := (Memref.whole cc0_stg4_0 : Memref sig .tc .vmem S4096x2048 .f32).access (rowsAt (rowOff j) (rowOff_inb j))) X v

/-- every other chunk is as before. -/
theorem chunk_setChunk_ne {j k : ℕ} (h : k % 8 ≠ j % 8) (X : OutC F) (v : Vec F S512x2048 .f32) :
    chunk k (setChunk j X v) = chunk k X :=
  funext fun i => View.read_slice_write_of_not_mem (v := (Memref.whole cc0_stg4_0 : Memref sig .tc .vmem S4096x2048 .f32).view)
    (rowsAt (rowOff j) (rowOff_inb j)) X v Finset.univ (y := pos k i) fun hm => by
      obtain ⟨i', -, e⟩ := Finset.mem_map.mp hm
      have e0 : (pos j i' 0).val = (pos k i 0).val := congrArg (fun y : S4096x2048.Idx => (y 0).val) e
      rw [pos_row, pos_row] at e0
      have h1 : (i 0).val < 512 := (i 0).isLt
      have h2 : (i' 0).val < 512 := (i' 0).isLt
      omega

/-- Every element of the output stands in one of the chunks. -/
theorem exists_pos (y : S4096x2048.Idx) : ∃ j i, pos j i = y := by
  have h0 : (y 0).val < 4096 := (y 0).isLt
  refine ⟨(y 0).val / 512, fun a => match a with | ⟨0, _⟩ => ⟨(y 0).val % 512, Nat.mod_lt _ (by decide)⟩ | ⟨1, _⟩ => y 1, ?_⟩
  refine funext fun a => Fin.ext ?_
  match a with
  | ⟨0, _⟩ => refine (pos_row _ _).trans ?_; show 512 * ((y 0).val / 512 % 8) + (y 0).val % 512 = (y 0).val; omega
  | ⟨1, _⟩ => exact pos_col _ _

/-! ## What the steps leave -/

variable (m : (ℓ : Loc nD τ sig) → Buf (Elt F) ℓ)

/-- Chunk `k` summed over device `c` and the `t` devices to its left. -/
def acc (k : ℕ) : ℕ → Dev nD → Vec F S512x2048 .f32
  | 0, c => chunk k (outC m 0 c)
  | t + 1, c => addf (chunk k (outC m 0 c)) (acc k t (prv c))

theorem acc_congr {j k : ℕ} (h : j % 8 = k % 8) : ∀ (t : ℕ) (c : Dev nD), acc m j t c = acc m k t c
  | 0, c => chunk_congr h _
  | t + 1, c => by unfold acc; rw [chunk_congr h, acc_congr h t]

theorem pay3_eq (v : Vec F S512x2048 .f32) : k0_pay3 v = v := by
  unfold k0_pay3; exact (shapeCast_self _ _).trans (shapeCast_self _ _)

theorem pay4_eq (a b : Vec F S512x2048 .f32) : k0_pay4 a b = addf a b := by
  unfold k0_pay4; exact congrArg (fun x => addf x b) (shapeCast_self a _)

theorem chunk_absorb_ne {s j k : ℕ} (h : k % 8 ≠ j % 8) (X : OutC F) (b : Vec F S512x2048 .f32) :
    chunk k (absorb s j X b) = chunk k X := chunk_setChunk_ne h _ _

theorem chunk_finish_ne {s j k : ℕ} (h : k % 8 ≠ j % 8) (sc : F .f32) (X : OutC F) : chunk k (finish s sc j X) = chunk k X := by
  unfold finish; split
  · exact chunk_setChunk_ne h _ _
  · rfl

theorem prv_val (c : Dev nD) : (prv c).val = (c.val + 7) % 8 := rfl

/-- A step changes only the chunk that it receives. -/
theorem chunk_step_ne {s k : ℕ} {c : Dev nD} (h : k % 8 ≠ (c.val + 15 - s) % 8) : chunk k (outC m (s + 1) c) = chunk k (outC m s c) := by
  rw [outC_succ, chunk_finish_ne h, chunk_absorb_ne h]

/-- A chunk that has not been received yet is the device's own product's. -/
theorem chunk_early (c : Dev nD) (k t : ℕ) (ht : t < 8) (hk : (k + t) % 8 = c.val % 8) :
    ∀ s, s < t ∨ s = 0 → chunk k (outC m s c) = chunk k (outC m 0 c)
  | 0, _ => rfl
  | s + 1, hs => by
    have hc := c.isLt
    rw [chunk_step_ne m (by omega)]
    exact chunk_early c k t ht hk s (by omega)

/-- The chunk received at step `s` of the first six holds the sum over `s + 2` devices, while it waits to be sent. -/
theorem chunk_sum : ∀ (t : ℕ) (c : Dev nD) (k : ℕ), t < 7 → (k + t) % 8 = c.val % 8 → chunk k (outC m t c) = acc m k t c
  | 0, c, k, _, _ => rfl
  | t + 1, c, k, ht, hk => by
    have hc := c.isLt
    have hp := prv_val c
    have hj : k % 8 = (c.val + 15 - t) % 8 := by omega
    rw [outC_succ]
    unfold finish absorb sent
    rw [if_neg (by omega), if_pos (by omega), chunk_congr hj, chunk_setChunk, pay4_eq, pay3_eq, ← chunk_congr hj,
      chunk_early m c k (t + 1) (by omega) hk t (by omega), ← chunk_congr (j := k) (k := (prv c).val + 16 - t) (by omega),
      chunk_sum t (prv c) k (by omega) (by omega)]
    rfl

/-- The device that activates chunk `k`. -/
def owner (k : ℕ) : Dev nD := ⟨(k + 7) % 8, Nat.mod_lt _ (by decide)⟩

/-- Chunk `k` of the result: the sum over all eight devices, scaled and activated. -/
def result (k : ℕ) : Vec F S512x2048 .f32 := k0_pay18 (scale m (owner k)) (acc m k 7 (owner k))

/-- After step 6 a device holds the chunk it owns, finished. -/
theorem chunk_owned (c : Dev nD) (k : ℕ) (hk : (k + 7) % 8 = c.val) : chunk k (outC m 7 c) = result m k := by
  have hc := c.isLt
  have hp := prv_val c
  have ho : owner k = c := Fin.ext hk
  have hj : k % 8 = (c.val + 15 - 6) % 8 := by omega
  unfold result
  rw [ho, outC_succ]
  unfold finish absorb sent
  rw [if_pos rfl, if_pos (by omega), chunk_congr hj, chunk_setChunk, chunk_setChunk, pay4_eq, pay3_eq, ← chunk_congr hj,
    chunk_early m c k 7 (by omega) (by omega) 6 (by omega), ← chunk_congr (j := k) (k := (prv c).val + 16 - 6) (by omega),
    chunk_sum m 6 (prv c) k (by omega) (by omega)]
  rfl

/-- The finished chunks go round: after step `6 + h` a device holds those that its `h` left neighbours own, too. -/
theorem chunk_gathered : ∀ (h : ℕ) (c : Dev nD) (k t : ℕ), h < 8 → t ≤ h → (k + 7 + t) % 8 = c.val → chunk k (outC m (7 + h) c) = result m k
  | 0, c, k, t, _, ht, hk => chunk_owned m c k (by omega)
  | h + 1, c, k, t, hh, ht, hk => by
    have hc := c.isLt
    have hp := prv_val c
    rcases Nat.lt_or_ge h t with hlt | hge
    · have hj : k % 8 = (c.val + 15 - (7 + h)) % 8 := by omega
      show chunk k (outC m (7 + h + 1) c) = _
      rw [outC_succ]
      unfold finish absorb sent
      rw [if_neg (by omega), if_neg (by omega), chunk_congr hj, chunk_setChunk, pay3_eq, ← chunk_congr (j := k) (k := (prv c).val + 16 - (7 + h)) (by omega)]
      exact chunk_gathered h (prv c) k h (by omega) le_rfl (by omega)
    · show chunk k (outC m (7 + h + 1) c) = _
      rw [chunk_step_ne m (by omega)]
      exact chunk_gathered h c k t (by omega) hge hk

/-- After the fourteen steps every device holds every chunk finished. -/
theorem chunk_final (c : Dev nD) (k : ℕ) : chunk k (outC m 14 c) = result m k := by
  have hc : c.val < 8 := c.isLt
  exact chunk_gathered m 7 c k ((c.val + 64 - (k % 8 + 7)) % 8) (by omega) (by omega) (by omega)

theorem element_final (c : Dev nD) (k : ℕ) (i : S512x2048.Idx) : outC m 14 c (pos k i) = result m k i := by
  rw [← chunk_apply k (outC m 14 c) i, chunk_final]

end Cert.KernelIdeal.Hand

end
-- ==== Proof.Body.lean ====
/- The body's steps, each run from one state of the ring to the next. -/
module

public import proofs.«01_k».proof.Proof.Common

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

abbrev 𝒱₀ : Variants := Variants.none

variable (m : (ℓ : Loc nD τ sig) → Buf (Elt F) ℓ)

/-- A program of device `c`'s body establishes `Q`. -/
abbrev Runs (c : Dev nD) {α : Type} (p : BodyProg F α) (Q : α → sProp 𝕄) : sProp 𝕄 :=
  wp frame (wpE (defs₀ (F := F)) 𝒱₀ (c : Thread nD τ) none) Set.univ p Q

/-! ## The states -/

/-- The cells' invariants device `c` opens, under the names `K` the launch gave them: its own four, its neighbours' barriers, the
    right neighbour's receive cell and the left neighbour's credit cell. With them the order of the waits. -/
def invs (K : Dev nD × Fin 4 → ℕ) (c : Dev nD) : sProp 𝕄 :=
  iprop(cellInv ER (sched m) (K (c, 0)) (barCell c) ∗ cellInv ER (sched m) (K (c, 1)) (crdCell c)
    ∗ cellInv ER (sched m) (K (c, 2)) (sndCell c) ∗ cellInv ER (sched m) (K (c, 3)) (rcvCell c)
    ∗ cellInv ER (sched m) (K (nxt c, 0)) (barCell (nxt c)) ∗ cellInv ER (sched m) (K (prv c, 0)) (barCell (prv c))
    ∗ cellInv ER (sched m) (K (prv c, 1)) (crdCell (prv c)) ∗ cellInv ER (sched m) (K (nxt c, 3)) (rcvCell (nxt c))
    ∗ levAts L lv)

instance invs_persistent (K : Dev nD × Fin 4 → ℕ) (c : Dev nD) : BI.Persistent (invs m K c) := by unfold invs; infer_instance

/-- What step `k` uses up: that a credit and a copy of round `k` will come, and the right to make the copy and to have it sent. -/
def stepToks (c : Dev nD) (k : ℕ) : sProp 𝕄 :=
  iprop(cred (tallyAt (crdCell c) k 1) ∗ cred (tallyAt (rcvCell c) k N) ∗ dutyTok ER (rcvCell (nxt c)) k false ∗ dutyTok ER (sndCell c) k false)

/-- At the start of step `s`: the device's own cells stand at round `s`. -/
def core (c : Dev nD) (s : ℕ) (X : OutC F) : sProp 𝕄 :=
  iprop(atPos ER (crdCell c) s ∅ 0 ∗ atPos ER (sndCell c) s ∅ 0 ∗ atPos ER (rcvCell c) s ∅ 0 ∗ reached ER (sndCell c) s
    ∗ bigSep (Finset.Ico s 14) (stepToks (F := F) c) ∗ sndPay c ∗ outPts c X)

/-- The credits still to give from round `s` on. -/
def crdToks (c : Dev nD) (s : ℕ) : sProp 𝕄 := bigSep (Finset.Ico s 14) fun k => dutyTok ER (crdCell (prv c)) k false

/-- Before the credit of round `s`: the device holds its receive buffer. -/
def ready (c : Dev nD) (s : ℕ) (f : RcvC F) (X : OutC F) : sProp 𝕄 :=
  iprop(core c s X ∗ reached ER (rcvCell c) s ∗ reached ER (crdCell (prv c)) s ∗ crdToks (F := F) c s
    ∗ (∃ W, owes (c : Thread nD τ) (oweR c s + oweC c s) W) ∗ rcvPts c f)

/-- After the credit of round `s`: the left neighbour may write the receive buffer. -/
def lent (c : Dev nD) (s : ℕ) (X : OutC F) : sProp 𝕄 :=
  iprop(core c s X ∗ crdToks (F := F) c (s + 1) ∗ ∃ W, owes (c : Thread nD τ) (oweR c s + oweC c (s + 1)) W)

/-! ## Whole buffers -/

theorem hz : (![0, 0] : Fin 2 → Nat) = fun _ => 0 := funext fun a => by fin_cases a <;> rfl
theorem write_snd (f w : SndC F) :
    ((Memref.whole cc0_scratch0 : Memref sig .tc .vmem S512x2048 .f32).access chunkAll : View sig .tc _ _ _).write (Elt F) f w Finset.univ = w :=
  Memref.write_access_unit_zero_univ (Elt F) cc0_scratch0 hz _ f w
theorem read_rcv (f : RcvC F) :
    (Memref.whole cc0_scratch1 : Memref sig .tc .vmem S512x2048 .f32).view.readAt (Elt F) chunkAll.toLoadRect f = f :=
  Memref.readAt_unit_zero (Elt F) cc0_scratch1 hz _ f

theorem snd_view_eq (c : Dev nD) (f : SndC F) :
    ((Memref.whole cc0_scratch0 : Memref sig .tc .vmem S512x2048 .f32).view.loc (c : Thread nD τ)
      ↦[(Memref.whole cc0_scratch0 : Memref sig .tc .vmem S512x2048 .f32).view.set]{fullShare} f : sProp 𝕄) = sndPts c f := by
  simp only [Memref.view_whole, View.set_whole]
theorem rcv_view_eq (c : Dev nD) (f : RcvC F) :
    ((Memref.whole cc0_scratch1 : Memref sig .tc .vmem S512x2048 .f32).view.loc (c : Thread nD τ)
      ↦[(Memref.whole cc0_scratch1 : Memref sig .tc .vmem S512x2048 .f32).view.set]{fullShare} f : sProp 𝕄) = rcvPts c f := by
  simp only [Memref.view_whole, View.set_whole]

/-! ## The credit -/

/-- The credit of round `s` lends the receive buffer to the left neighbour. -/
theorem run_giveCredit (K : Dev nD × Fin 4 → ℕ) (c l : Dev nD) (hl : l = prv c) (s : ℕ) (hs : s < 14) (f : RcvC F) (X : OutC F) :
    iprop(invs m K c ∗ ready c s f X) ⊢ Runs c (giveCredit l) (fun _ => lent c s X) := by
  subst hl
  unfold giveCredit
  simp only [semSignalWord, Prog.lift, Prog.bind_op, Prog.bind_ret, Prog.pure_eq_ret]
  unfold invs ready lent crdToks
  rw [bigSep_Ico_peel hs, oweC_peel c s hs]
  iintro ⟨⟨-, -, -, -, -, -, #HI, -, -⟩, Hcore, #HrV, #HrC, ⟨Ht, Hts⟩, ⟨%W, HO⟩, Hrcv⟩
  iapply (Rounds.wp_signal 𝒱₀ ER (sched m) (c : Thread nD τ) none (dst := (prv c : Thread nD τ)) (κ := K (prv c, 1))
      (r := s) (d := false) (by rw [duties_crd m (prv c) s hs]; exact Finset.mem_singleton_self _)
      ((amount_crd m (prv c) s false).trans (by decide)) s (oweR c s + oweC c (s + 1)) (add_assoc _ _ _).symm)
    $$ [HO Ht Hrcv]
  · isplitr; · iexact HI
    isplitl [HO]; · iexact HO
    isplitl [Ht]; · iexact Ht
    isplitl [Hrcv]
    · rw [payload_crd]; unfold crdPay; rw [nxt_prv]
      isplitl [Hrcv]; · iexists f; iexact Hrcv
      iexact HrV
    · iexact HrC
  iintro HO
  rw [wp_ret]; imodintro
  isplitl [Hcore]; · iexact Hcore
  isplitl [Hts]; · iexact Hts
  iexists W; iexact HO

/-! ## The exchange -/

/-- The copy of round `s` to the right neighbour. -/
theorem run_send (K : Dev nD × Fin 4 → ℕ) (c n : Dev nD) (hn : n = nxt c) (s : ℕ) (hs : s < 14)
    {hsc : (Memref.whole cc0_scratch1 : Memref sig (Dev.tc n : Thread nD τ).2.kind .vmem S512x2048 .f32).view.ref.isScScratch = false}
    {hsrc : (Memref.whole cc0_scratch0 : Memref sig .tc .vmem S512x2048 .f32).view.WordExact}
    {hdst : (Memref.whole cc0_scratch1 : Memref sig .tc .vmem S512x2048 .f32).view.WordExact}
    {hsem : DmaTarget.Typed .vmem (.dma cc0_scratch3.sem) (.remote (Dev.tc n : Thread nD τ) (Memref.whole cc0_scratch1 : Memref sig .tc .vmem S512x2048 .f32) (.dma cc0_scratch2.sem) hsc)}
    {α : Type} {Q : α → sProp 𝕄} {k : PUnit → BodyProg F α} (fn : RcvC F) (W : Waits sig ℕ) :
    iprop(cellInv ER (sched m) (K (c, 2)) (sndCell c) ∗ cellInv ER (sched m) (K (nxt c, 3)) (rcvCell (nxt c))
        ∗ sndPts c (sent m s c) ∗ (rcvPts (nxt c) fn ∗ reached ER (crdCell c) (s + 1))
        ∗ owes (c : Thread nD τ) (oweR c s + oweC c (s + 1)) W
        ∗ dutyTok ER (sndCell c) s false ∗ reached ER (sndCell c) s
        ∗ dutyTok ER (rcvCell (nxt c)) s false ∗ reached ER (rcvCell (nxt c)) s)
      ⊢ iprop(((cred (tallyAt (sndCell c) s N) ∗ owes (c : Thread nD τ) (oweR c (s + 1) + oweC c (s + 1)) W) -∗ Runs c (k ⟨⟩) Q)
          -∗ Runs c (.op (.enqueueDma (Memref.whole cc0_scratch0) (.remote (Dev.tc n : Thread nD τ) (Memref.whole cc0_scratch1) (.dma cc0_scratch2.sem) hsc)
              (.dma cc0_scratch3.sem) hsrc hdst hsem) k) Q) := by
  subst hn
  rw [← snd_view_eq, ← rcv_view_eq]
  exact Rounds.wp_send_pointsTo_with 𝒱₀ ER (sched m) (c : Thread nD τ) none (κ₁ := K (c, 2)) (κ₂ := K (nxt c, 3))
    (r₁ := s) (r₂ := s) (d₁ := false) (d₂ := false) (fd := fn) (F := reached ER (crdCell c) (s + 1))
    (by rw [duties_snd m c s hs]; exact Finset.mem_singleton_self _) (by rw [duties_rcv m (nxt c) s hs]; exact Finset.mem_singleton_self _)
    s s N rfl (amount_snd m c s false) (amount_rcv m (nxt c) s false) (oweR c (s + 1) + oweC c (s + 1))
    (by rw [oweR_peel c s hs, add_right_comm]) (W := W)
    (by rw [payload_snd, snd_view_eq]; unfold sndPay; iintro H; iexists _; iexact H)
    (by
      rw [payload_rcv, rcv_view_eq]; unfold rcvPay; rw [prv_nxt]
      rw [show (Memref.whole cc0_scratch1 : Memref sig .tc .vmem S512x2048 .f32).view.write (Elt F) fn
          ((Memref.whole cc0_scratch0 : Memref sig .tc .vmem S512x2048 .f32).view.read (Elt F) (sent m s c)) Finset.univ = sent m s c from by
        simp only [Memref.view_whole, View.read_whole, View.write_whole_univ]])

set_option maxHeartbeats 800000 in
/-- One exchange. -/
theorem run_xchg (K : Dev nD × Fin 4 → ℕ) (c n : Dev nD) (hn : n = nxt c) (s : ℕ) (hs : s < 14)
    (o : Fin 2 → ℕ) (h : ∀ a, o a + S512x2048.size a ≤ S4096x2048.size a) (ho : o = rowOff (c.val + 16 - s)) :
    iprop(invs m K c ∗ lent c s (outC m s c)) ⊢ Runs c (xchg n o h) (fun _ => ready c (s + 1) (sent m s (prv c)) (outC m s c)) := by
  subst ho
  unfold xchg readOut readBuf
  simp only [semWaitWord, Prog.lift, Prog.bind_op, Prog.bind_ret, Prog.pure_eq_ret]
  unfold invs lent ready core
  rw [bigSep_Ico_peel hs]
  unfold stepToks sndPay
  iintro ⟨⟨-, #HIcrd, #HIsnd, #HIrcv, -, -, -, #HIrcvN, #Hlev⟩, ⟨HatC, HatS, HatV, #HrS, ⟨⟨HcC, HcV, HtV, HtS⟩, Htoks⟩, ⟨%f0, Hsnd⟩, Hout⟩, Hcts, ⟨%W, HO⟩⟩
  iapply (wp_load 𝒱₀ (c : Thread nD τ) none Set.univ (m := Memref.whole cc0_stg4_0) (Finset.subset_univ _)) $$ Hout; iintro Hout
  iapply (wp_load 𝒱₀ (c : Thread nD τ) none Set.univ (m := Memref.whole cc0_scratch0) (Finset.subset_univ _)) $$ Hsnd; iintro Hsnd
  iapply (wp_store 𝒱₀ (c : Thread nD τ) none Set.univ (m := Memref.whole cc0_scratch0) (r := chunkAll) (Mk := Finset.univ) (Finset.subset_univ _)) $$ Hsnd; iintro Hsnd
  rw [write_snd]
  -- the credit: the right neighbour's receive buffer comes with it
  iapply (Rounds.wp_wait_rest_token 𝒱₀ ER (sched m) (c : Thread nD τ) none (κ := K (c, 1))
      (wpE_semWait_eq 𝒱₀ (c : Thread nD τ) none Set.univ) (Set.mem_univ _) s (O := oweR c s + oweC c (s + 1)) (W := W) (R := s) (m := 0) (T := ∅)
      (by rw [expect_crd m c s hs]; decide)) $$ [HcC HO HatC]
  · isplitr; · iexact HIcrd
    isplitl [HcC]; · iexact HcC
    isplitl [HO]; · iexact HO
    isplitr; · iapply (mayWait_of c _ s (2 * s + 2) s (s + 1) hs (le_of_eq (lv_crd c s)) (by omega) (by omega)); iexact Hlev
    iexact HatC
  iintro ⟨HO, HatC, #HrC, Hpay⟩
  ihave Hp := (Entails.of_eq (rest_crd m c s hs)) $$ Hpay
  unfold crdPay
  icases Hp with ⟨⟨%fn, HrcvN⟩, #HrVN⟩
  -- the copy
  iapply (run_send m K c n hn s hs fn _) $$ [Hsnd HrcvN HO HtS HtV]
  · isplitr; · iexact HIsnd
    isplitr; · iexact HIrcvN
    isplitl [Hsnd]; · iexact Hsnd
    isplitl [HrcvN]
    · isplitl [HrcvN]; · iexact HrcvN
      iexact HrC
    isplitl [HO]; · iexact HO
    isplitl [HtS]; · iexact HtS
    isplitr; · iexact HrS
    isplitl [HtV]; · iexact HtV
    iexact HrVN
  iintro ⟨HcS, HO⟩
  -- the copy out: the send buffer back
  iapply (Rounds.wp_wait_rest_token 𝒱₀ ER (sched m) (c : Thread nD τ) none (κ := K (c, 2))
      (wpE_waitDma2_eq 𝒱₀ (c : Thread nD τ) none Set.univ) (Set.mem_univ _) s (O := oweR c (s + 1) + oweC c (s + 1)) (W := _) (R := s) (m := 0) (T := ∅)
      (by rw [Nat.zero_add, expect_snd m c s hs]; rfl)) $$ [HcS HO HatS]
  · isplitr; · iexact HIsnd
    isplitl [HcS]; · iexact HcS
    isplitl [HO]; · iexact HO
    isplitr; · iapply (mayWait_of c _ s 0 (s + 1) (s + 1) hs (le_of_eq (lv_dma c _ snd_ne_rcv s)) (by omega) (by omega)); iexact Hlev
    iexact HatS
  iintro ⟨HO, HatS, #HrS', Hpay⟩
  ihave Hsnd := (Entails.of_eq (rest_snd m c s hs)) $$ Hpay
  unfold sndPay
  -- the copy in: the receive buffer, filled by the left neighbour
  iapply (Rounds.wp_wait_rest_token 𝒱₀ ER (sched m) (c : Thread nD τ) none (κ := K (c, 3))
      (wpE_waitDma2_eq 𝒱₀ (c : Thread nD τ) none Set.univ) (Set.mem_univ _) s (O := oweR c (s + 1) + oweC c (s + 1)) (W := _) (R := s) (m := 0) (T := ∅)
      (by rw [Nat.zero_add, expect_rcv m c s hs])) $$ [HcV HO HatV]
  · isplitr; · iexact HIrcv
    isplitl [HcV]; · iexact HcV
    isplitl [HO]; · iexact HO
    isplitr; · iapply (mayWait_of c _ s (2 * s + 3) (s + 1) (s + 1) hs (le_of_eq (lv_rcv c s)) (by omega) (by omega)); iexact Hlev
    iexact HatV
  iintro ⟨HO, HatV, #HrV', Hpay⟩
  ihave Hp := (Entails.of_eq (rest_rcv m c s hs)) $$ Hpay
  unfold rcvPay
  icases Hp with ⟨Hrcv, #HrP⟩
  rw [wp_ret]; imodintro
  isplitl [HatC HatS HatV Htoks Hsnd Hout]
  · isplitl [HatC]; · iexact HatC
    isplitl [HatS]; · iexact HatS
    isplitl [HatV]; · iexact HatV
    isplitr; · iexact HrS'
    isplitl [Htoks]; · iexact Htoks
    isplitl [Hsnd]; · iexact Hsnd
    iexact Hout
  isplitr; · iexact HrV'
  isplitr; · iexact HrP
  isplitl [Hcts]; · iexact Hcts
  isplitl [HO]; · iexists _; iexact HO
  iexact Hrcv

/-! ## What follows an exchange -/

/-- Add what arrived. -/
theorem run_accum (c : Dev nD) (s j : ℕ) (o : Fin 2 → ℕ) (h : ∀ a, o a + S512x2048.size a ≤ S4096x2048.size a) (ho : o = rowOff j)
    (f : RcvC F) (X : OutC F) :
    ready c s f X ⊢ Runs c (accum o h) (fun _ => ready c s f (setChunk j X (k0_pay4 (chunk j X) f))) := by
  subst ho
  unfold accum readOut readBuf writeOut
  simp only [Prog.lift, Prog.bind_op, Prog.bind_ret, Prog.pure_eq_ret]
  unfold ready core
  iintro ⟨⟨HatC, HatS, HatV, HrS, Htoks, Hsnd, Hout⟩, HrV, HrP, Hcts, HO, Hrcv⟩
  iapply (wp_load 𝒱₀ (c : Thread nD τ) none Set.univ (m := Memref.whole cc0_stg4_0) (Finset.subset_univ _)) $$ Hout; iintro Hout
  iapply (wp_load 𝒱₀ (c : Thread nD τ) none Set.univ (m := Memref.whole cc0_scratch1) (Finset.subset_univ _)) $$ Hrcv; iintro Hrcv
  rw [read_rcv]
  iapply (wp_load 𝒱₀ (c : Thread nD τ) none Set.univ (m := Memref.whole cc0_stg4_0) (Finset.subset_univ _)) $$ Hout; iintro Hout
  iapply (wp_store 𝒱₀ (c : Thread nD τ) none Set.univ (m := Memref.whole cc0_stg4_0) (r := rowsAt (rowOff j) (rowOff_inb j)) (Mk := Finset.univ) (Finset.subset_univ _)) $$ Hout; iintro Hout
  rw [wp_ret]; imodintro
  isplitl [HatC HatS HatV HrS Htoks Hsnd Hout]
  · isplitl [HatC]; · iexact HatC
    isplitl [HatS]; · iexact HatS
    isplitl [HatV]; · iexact HatV
    isplitl [HrS]; · iexact HrS
    isplitl [Htoks]; · iexact Htoks
    isplitl [Hsnd]; · iexact Hsnd
    iexact Hout
  isplitl [HrV]; · iexact HrV
  isplitl [HrP]; · iexact HrP
  isplitl [Hcts]; · iexact Hcts
  isplitl [HO]; · iexact HO
  iexact Hrcv

/-- Put what arrived. -/
theorem run_place (c : Dev nD) (s j : ℕ) (o : Fin 2 → ℕ) (h : ∀ a, o a + S512x2048.size a ≤ S4096x2048.size a) (ho : o = rowOff j)
    (f : RcvC F) (X : OutC F) :
    ready c s f X ⊢ Runs c (place o h) (fun _ => ready c s f (setChunk j X f)) := by
  subst ho
  unfold place readOut readBuf writeOut
  simp only [Prog.lift, Prog.bind_op, Prog.bind_ret, Prog.pure_eq_ret]
  unfold ready core
  iintro ⟨⟨HatC, HatS, HatV, HrS, Htoks, Hsnd, Hout⟩, HrV, HrP, Hcts, HO, Hrcv⟩
  iapply (wp_load 𝒱₀ (c : Thread nD τ) none Set.univ (m := Memref.whole cc0_scratch1) (Finset.subset_univ _)) $$ Hrcv; iintro Hrcv
  rw [read_rcv]
  iapply (wp_load 𝒱₀ (c : Thread nD τ) none Set.univ (m := Memref.whole cc0_stg4_0) (Finset.subset_univ _)) $$ Hout; iintro Hout
  iapply (wp_store 𝒱₀ (c : Thread nD τ) none Set.univ (m := Memref.whole cc0_stg4_0) (r := rowsAt (rowOff j) (rowOff_inb j)) (Mk := Finset.univ) (Finset.subset_univ _)) $$ Hout; iintro Hout
  rw [wp_ret]; imodintro
  isplitl [HatC HatS HatV HrS Htoks Hsnd Hout]
  · isplitl [HatC]; · iexact HatC
    isplitl [HatS]; · iexact HatS
    isplitl [HatV]; · iexact HatV
    isplitl [HrS]; · iexact HrS
    isplitl [Htoks]; · iexact Htoks
    isplitl [Hsnd]; · iexact Hsnd
    iexact Hout
  isplitl [HrV]; · iexact HrV
  isplitl [HrP]; · iexact HrP
  isplitl [Hcts]; · iexact Hcts
  isplitl [HO]; · iexact HO
  iexact Hrcv

/-- Activate chunk `j`. -/
theorem run_activate (c : Dev nD) (s j : ℕ) (sc : F .f32) (o : Fin 2 → ℕ) (h : ∀ a, o a + S512x2048.size a ≤ S4096x2048.size a) (ho : o = rowOff j)
    (X : OutC F) :
    lent c s X ⊢ Runs c (activate sc o h) (fun _ => lent c s (setChunk j X (k0_pay18 sc (chunk j X)))) := by
  subst ho
  unfold activate readOut writeOut
  simp only [Prog.lift, Prog.bind_op, Prog.bind_ret, Prog.pure_eq_ret]
  unfold lent core
  iintro ⟨⟨HatC, HatS, HatV, HrS, Htoks, Hsnd, Hout⟩, Hcts, HO⟩
  iapply (wp_load 𝒱₀ (c : Thread nD τ) none Set.univ (m := Memref.whole cc0_stg4_0) (Finset.subset_univ _)) $$ Hout; iintro Hout
  iapply (wp_load 𝒱₀ (c : Thread nD τ) none Set.univ (m := Memref.whole cc0_stg4_0) (Finset.subset_univ _)) $$ Hout; iintro Hout
  iapply (wp_store 𝒱₀ (c : Thread nD τ) none Set.univ (m := Memref.whole cc0_stg4_0) (r := rowsAt (rowOff j) (rowOff_inb j)) (Mk := Finset.univ) (Finset.subset_univ _)) $$ Hout; iintro Hout
  rw [wp_ret]; imodintro
  isplitl [HatC HatS HatV HrS Htoks Hsnd Hout]
  · isplitl [HatC]; · iexact HatC
    isplitl [HatS]; · iexact HatS
    isplitl [HatV]; · iexact HatV
    isplitl [HrS]; · iexact HrS
    isplitl [Htoks]; · iexact Htoks
    isplitl [Hsnd]; · iexact Hsnd
    iexact Hout
  isplitl [Hcts]; · iexact Hcts
  iexact HO

/-! ## The start: barrier, product, scales -/

/-- The barrier: a unit to each neighbour, two units awaited. -/
theorem run_meet (K : Dev nD × Fin 4 → ℕ) (c l r : Dev nD) (hl : l = prv c) (hr : r = nxt c) (W : Waits sig ℕ) :
    iprop(invs m K c ∗ atPos ER (barCell c) 0 ∅ 0 ∗ reached ER (barCell (nxt c)) 0 ∗ reached ER (barCell (prv c)) 0
        ∗ dutyTok ER (barCell (nxt c)) 0 false ∗ dutyTok ER (barCell (prv c)) 0 true ∗ cred (tallyAt (barCell c) 0 2) ∗ owes (c : Thread nD τ) (O₀ c) W)
      ⊢ Runs c (meet l r) (fun _ => iprop(atPos ER (barCell c) 1 ∅ 0 ∗ ∃ W, owes (c : Thread nD τ) (oweR c 0 + oweC c 0) W)) := by
  subst hl hr
  unfold meet
  simp only [semSignalWord, semWaitWord, Prog.lift, Prog.bind_op, Prog.bind_ret, Prog.pure_eq_ret]
  unfold invs O₀
  iintro ⟨⟨#HI, -, -, -, #HIN, #HIP, -, -, #Hlev⟩, Hat, #HrN, #HrP, HtN, HtP, Hc, HO⟩
  iapply (Rounds.wp_signal 𝒱₀ ER (sched m) (c : Thread nD τ) none (dst := (prv c : Thread nD τ)) (κ := K (prv c, 0))
      (d := true) (by rw [duties_bar]; exact Finset.mem_univ _) ((amount_bar m (prv c) 0 true).trans (by decide)) 0
      ((oweR c 0 + oweC c 0) + tallyAt (barCell (nxt c)) 0 1) rfl) $$ [HO HtP]
  · isplitr; · iexact HIP
    isplitl [HO]; · iexact HO
    isplitl [HtP]; · iexact HtP
    isplitr; · rw [payload_bar]; iempintro
    iexact HrP
  iintro HO
  iapply (Rounds.wp_signal 𝒱₀ ER (sched m) (c : Thread nD τ) none (dst := (nxt c : Thread nD τ)) (κ := K (nxt c, 0))
      (d := false) (by rw [duties_bar]; exact Finset.mem_univ _) ((amount_bar m (nxt c) 0 false).trans (by decide)) 0
      (oweR c 0 + oweC c 0) rfl) $$ [HO HtN]
  · isplitr; · iexact HIN
    isplitl [HO]; · iexact HO
    isplitl [HtN]; · iexact HtN
    isplitr; · rw [payload_bar]; iempintro
    iexact HrN
  iintro HO
  iapply (Rounds.wp_wait_rest_token 𝒱₀ ER (sched m) (c : Thread nD τ) none (κ := K (c, 0))
      (wpE_semWait_eq 𝒱₀ (c : Thread nD τ) none Set.univ) (Set.mem_univ _) 0 (O := oweR c 0 + oweC c 0) (W := W) (R := 0) (m := 0) (T := ∅)
      (by rw [expect_bar]; decide)) $$ [Hc HO Hat]
  · isplitr; · iexact HI
    isplitl [Hc]; · iexact Hc
    isplitl [HO]; · iexact HO
    isplitr; · iapply (mayWait_of c _ 0 1 0 0 (by omega) (le_of_eq (lv_bar c 0)) (by omega) (by omega)); iexact Hlev
    iexact Hat
  iintro ⟨HO, Hat, -, -⟩
  rw [wp_ret]; imodintro
  isplitl [Hat]; · iexact Hat
  iexists _; iexact HO

/-- A buffer of device `c` held whole at `f`. -/
abbrev pts (c : Dev nD) (b : Ref sig .tc) (f : b.ty.Contents (Elt F)) : sProp 𝕄 := ((c : Thread nD τ).loc b) ↦{fullShare} f

theorem read_x (f : (cc0_stg0_0 : Ref sig .tc).ty.Contents (Elt F)) :
    (Memref.whole cc0_stg0_0 : Memref sig .tc .vmem S4096x512 .fp8e4m3).view.readAt (Elt F)
      (Rect.unit (s := S4096x512) ![0, 0] S4096x512.size inb_S4096x512_S4096x512_0_0).toLoadRect f = f :=
  Memref.readAt_unit_zero (Elt F) cc0_stg0_0 hz _ f
theorem read_w (f : (cc0_stg1_0 : Ref sig .tc).ty.Contents (Elt F)) :
    (Memref.whole cc0_stg1_0 : Memref sig .tc .vmem S512x2048 .fp8e4m3).view.readAt (Elt F) chunkAll.toLoadRect f = f :=
  Memref.readAt_unit_zero (Elt F) cc0_stg1_0 hz _ f
theorem write_out (f w : OutC F) :
    ((Memref.whole cc0_stg4_0 : Memref sig .tc .vmem S4096x2048 .f32).access
      (Rect.unit (s := S4096x2048) ![0, 0] S4096x2048.size inb_S4096x2048_S4096x2048_0_0) : View sig .tc _ _ _).write (Elt F) f w Finset.univ = w :=
  Memref.write_access_unit_zero_univ (Elt F) cc0_stg4_0 hz _ f w

theorem run_product (c : Dev nD) (x : (cc0_stg0_0 : Ref sig .tc).ty.Contents (Elt F)) (w : (cc0_stg1_0 : Ref sig .tc).ty.Contents (Elt F)) (g : OutC F) :
    iprop(pts c cc0_stg0_0 x ∗ pts c cc0_stg1_0 w ∗ outPts c g)
      ⊢ Runs c product (fun _ => iprop(pts c cc0_stg0_0 x ∗ pts c cc0_stg1_0 w ∗ outPts c (k0_pay1 x w))) := by
  unfold product
  simp only [Prog.lift, Prog.bind_op, Prog.bind_ret, Prog.pure_eq_ret]
  iintro ⟨Hx, Hw, Hout⟩
  iapply (wp_load 𝒱₀ (c : Thread nD τ) none Set.univ (m := Memref.whole cc0_stg0_0) (Finset.subset_univ _)) $$ Hx; iintro Hx
  rw [read_x]
  iapply (wp_load 𝒱₀ (c : Thread nD τ) none Set.univ (m := Memref.whole cc0_stg1_0) (Finset.subset_univ _)) $$ Hw; iintro Hw
  rw [read_w]
  iapply (wp_load 𝒱₀ (c : Thread nD τ) none Set.univ (m := Memref.whole cc0_stg4_0) (Finset.subset_univ _)) $$ Hout; iintro Hout
  iapply (wp_store 𝒱₀ (c : Thread nD τ) none Set.univ (m := Memref.whole cc0_stg4_0)
    (r := Rect.unit (s := S4096x2048) ![0, 0] S4096x2048.size inb_S4096x2048_S4096x2048_0_0) (Mk := Finset.univ) (Finset.subset_univ _)) $$ Hout; iintro Hout
  rw [write_out, wp_ret]; imodintro
  isplitl [Hx]; · iexact Hx
  isplitl [Hw]; · iexact Hw
  iexact Hout

theorem run_scales (c : Dev nD) :
    iprop(pts c cc0_stg2_0 (sxstg m c) ∗ pts c cc0_stg3_0 (swstg m c))
      ⊢ Runs c scales (fun s => iprop(⌜s = scale m c⌝ ∗ pts c cc0_stg2_0 (sxstg m c) ∗ pts c cc0_stg3_0 (swstg m c))) := by
  unfold scales smemLoad Runs
  rw [wp_bind]
  iintro ⟨Ha, Hb⟩
  iapply (wp_smemLoadElt 𝒱₀ (c : Thread nD τ) none Set.univ (m := Memref.whole cc0_stg2_0)
    (r := Rect.unit (s := S1) ![0] S1.size inb_S1_S1_0) (Finset.subset_univ _)) $$ Ha; iintro Ha
  rw [wp_ret]; imodintro
  rw [wp_bind]
  iapply (wp_smemLoadElt 𝒱₀ (c : Thread nD τ) none Set.univ (m := Memref.whole cc0_stg3_0)
    (r := Rect.unit (s := S1) ![0] S1.size inb_S1_S1_0) (Finset.subset_univ _)) $$ Hb; iintro Hb
  rw [wp_ret]; imodintro
  rw [Prog.pure_eq_ret, wp_ret]; imodintro
  isplitr; · ipureintro; rfl
  isplitl [Ha]; · iexact Ha
  iexact Hb

/-! ## Whole steps -/

/-- Two programs one after the other, what `I` says kept. -/
theorem run_seq {c : Dev nD} {α β : Type} {I A : sProp 𝕄} [BI.Persistent I] {p : BodyProg F α} {k : α → BodyProg F β} {B : α → sProp 𝕄} {Q : β → sProp 𝕄}
    (h₁ : iprop(I ∗ A) ⊢ Runs c p B) (h₂ : ∀ a, iprop(I ∗ B a) ⊢ Runs c (k a) Q) : iprop(I ∗ A) ⊢ Runs c (p >>= k) Q := by
  unfold Runs
  rw [wp_bind]
  iintro ⟨#HI, HA⟩
  ihave H := h₁ $$ [HA]
  · isplitr; · iexact HI
    iexact HA
  iapply (wp_wand frame (wpE (defs₀ (F := F)) 𝒱₀ (c : Thread nD τ) none) Set.univ (p := p) (Q := B)) $$ H
  iintro %a HB
  iapply (h₂ a)
  isplitr; · iexact HI
  iexact HB

end Cert.KernelIdeal.Hand

end
-- ==== Proof.Chain.lean ====
/- The body's steps put together: the printed neighbours and offsets are the ring's, and the steps follow one another. -/
module

public import proofs.«01_k».proof.Proof.Body

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-! ## The printed neighbours and offsets -/

theorem left_devs : ∀ c : Dev nD, (⟨k0_dev1 c, k0_dev1_lt c⟩ : Dev nD) = prv c ∧ (⟨k0_dev3 c, k0_dev3_lt c⟩ : Dev nD) = prv c
    ∧ (⟨k0_dev5 c, k0_dev5_lt c⟩ : Dev nD) = prv c ∧ (⟨k0_dev7 c, k0_dev7_lt c⟩ : Dev nD) = prv c
    ∧ (⟨k0_dev9 c, k0_dev9_lt c⟩ : Dev nD) = prv c ∧ (⟨k0_dev11 c, k0_dev11_lt c⟩ : Dev nD) = prv c
    ∧ (⟨k0_dev13 c, k0_dev13_lt c⟩ : Dev nD) = prv c ∧ (⟨k0_dev15 c, k0_dev15_lt c⟩ : Dev nD) = prv c
    ∧ (⟨k0_dev17 c, k0_dev17_lt c⟩ : Dev nD) = prv c ∧ (⟨k0_dev19 c, k0_dev19_lt c⟩ : Dev nD) = prv c
    ∧ (⟨k0_dev21 c, k0_dev21_lt c⟩ : Dev nD) = prv c ∧ (⟨k0_dev23 c, k0_dev23_lt c⟩ : Dev nD) = prv c
    ∧ (⟨k0_dev25 c, k0_dev25_lt c⟩ : Dev nD) = prv c ∧ (⟨k0_dev27 c, k0_dev27_lt c⟩ : Dev nD) = prv c
    ∧ (⟨k0_dev29 c, k0_dev29_lt c⟩ : Dev nD) = prv c := by decide +kernel

theorem right_devs : ∀ c : Dev nD, (⟨k0_dev2 c, k0_dev2_lt c⟩ : Dev nD) = nxt c ∧ (⟨k0_dev4 c, k0_dev4_lt c⟩ : Dev nD) = nxt c
    ∧ (⟨k0_dev6 c, k0_dev6_lt c⟩ : Dev nD) = nxt c ∧ (⟨k0_dev8 c, k0_dev8_lt c⟩ : Dev nD) = nxt c
    ∧ (⟨k0_dev10 c, k0_dev10_lt c⟩ : Dev nD) = nxt c ∧ (⟨k0_dev12 c, k0_dev12_lt c⟩ : Dev nD) = nxt c
    ∧ (⟨k0_dev14 c, k0_dev14_lt c⟩ : Dev nD) = nxt c ∧ (⟨k0_dev16 c, k0_dev16_lt c⟩ : Dev nD) = nxt c
    ∧ (⟨k0_dev18 c, k0_dev18_lt c⟩ : Dev nD) = nxt c ∧ (⟨k0_dev20 c, k0_dev20_lt c⟩ : Dev nD) = nxt c
    ∧ (⟨k0_dev22 c, k0_dev22_lt c⟩ : Dev nD) = nxt c ∧ (⟨k0_dev24 c, k0_dev24_lt c⟩ : Dev nD) = nxt c
    ∧ (⟨k0_dev26 c, k0_dev26_lt c⟩ : Dev nD) = nxt c ∧ (⟨k0_dev28 c, k0_dev28_lt c⟩ : Dev nD) = nxt c
    ∧ (⟨k0_dev30 c, k0_dev30_lt c⟩ : Dev nD) = nxt c := by decide +kernel

/-- The chunk the reduce-scatter sends at step `s`, the one it receives, and the one the all-gather sends `s` steps later on. -/
theorem off1_eq : ∀ (c : Dev nD) (s : Fin 7), k0_off1 c (BitVec.ofNat 32 s.val) = rowOff (c.val + 16 - s.val) := by decide +kernel
theorem off2_eq : ∀ (c : Dev nD) (s : Fin 7), k0_off2 c (BitVec.ofNat 32 s.val) = rowOff (c.val + 15 - s.val) := by decide +kernel
theorem off4_eq : ∀ (c : Dev nD) (s : Fin 7), k0_off4 c (BitVec.ofNat 32 s.val) = rowOff (c.val + 16 - (7 + s.val)) := by decide +kernel
theorem off1_eq' : ∀ (c : Dev nD) (s : Fin 7), k0_off1 c (BitVec.ofNat 32 s.val) = rowOff (c.val + 15 - (7 + s.val)) := by decide +kernel
theorem off3_eq : ∀ c : Dev nD, k0_off3 c = rowOff (c.val + 15 - 6) := by decide +kernel

/-! ## Whole steps -/

variable (m : (ℓ : Loc nD τ sig) → Buf (Elt F) ℓ) (K : Dev nD × Fin 4 → ℕ) (c : Dev nD)

/-- Weaken what a program establishes. -/
theorem run_mono {α : Type} {P : sProp 𝕄} {p : BodyProg F α} {Q Q' : α → sProp 𝕄} (h : P ⊢ Runs c p Q) (hQ : ∀ a, Q a ⊢ Q' a) : P ⊢ Runs c p Q' :=
  h.trans (wp_mono frame _ _ hQ)

theorem drop_left {I A B : sProp 𝕄} (h : A ⊢ B) : iprop(I ∗ A) ⊢ B := by
  iintro ⟨-, H⟩; iapply h; iexact H

/-- One step of the reduce-scatter. -/
theorem run_rsStep (n l : Dev nD) (hn : n = nxt c) (hl : l = prv c) (s : ℕ) (hs : s < 7) (o o' : Fin 2 → ℕ)
    (h : ∀ a, o a + S512x2048.size a ≤ S4096x2048.size a) (h' : ∀ a, o' a + S512x2048.size a ≤ S4096x2048.size a)
    (ho : o = rowOff (c.val + 16 - s)) (ho' : o' = rowOff (c.val + 15 - s)) :
    iprop(invs m K c ∗ lent c s (outC m s c)) ⊢ Runs c (rsStep n l o o' h h') (fun _ => lent c (s + 1)
      (absorb s (c.val + 15 - s) (outC m s c) (sent m s (prv c)))) := by
  unfold rsStep absorb
  rw [if_pos hs]
  refine run_seq (run_xchg m K c n hn s (by omega) o h ho) fun _ => ?_
  refine run_seq (drop_left (run_accum c (s + 1) _ o' h' ho' _ _)) fun _ => ?_
  exact run_giveCredit m K c l hl (s + 1) (by omega) _ _

/-- One step of the all-gather, without the credit. -/
theorem run_agStep (n : Dev nD) (hn : n = nxt c) (s : ℕ) (hs : 7 ≤ s) (hs' : s < 14) (o o' : Fin 2 → ℕ)
    (h : ∀ a, o a + S512x2048.size a ≤ S4096x2048.size a) (h' : ∀ a, o' a + S512x2048.size a ≤ S4096x2048.size a)
    (ho : o = rowOff (c.val + 16 - s)) (ho' : o' = rowOff (c.val + 15 - s)) :
    iprop(invs m K c ∗ lent c s (outC m s c)) ⊢ Runs c (agStep n o o' h h') (fun _ => ready c (s + 1) (sent m s (prv c)) (outC m (s + 1) c)) := by
  unfold agStep
  rw [outC_succ]; unfold finish absorb
  rw [if_neg (by omega), if_neg (by omega)]
  refine run_seq (run_xchg m K c n hn s hs' o h ho) fun _ => ?_
  exact drop_left (run_place c (s + 1) _ o' h' ho' _ _)

theorem outC_rs (s : ℕ) (hs : s < 6) : absorb s (c.val + 15 - s) (outC m s c) (sent m s (prv c)) = outC m (s + 1) c := by
  rw [outC_succ]; unfold finish; rw [if_neg (by omega)]

/-- A step of the reduce-scatter before the last. -/
theorem run_rsStep' (n l : Dev nD) (hn : n = nxt c) (hl : l = prv c) (s : ℕ) (hs : s < 6) (o o' : Fin 2 → ℕ)
    (h : ∀ a, o a + S512x2048.size a ≤ S4096x2048.size a) (h' : ∀ a, o' a + S512x2048.size a ≤ S4096x2048.size a)
    (ho : o = rowOff (c.val + 16 - s)) (ho' : o' = rowOff (c.val + 15 - s)) :
    iprop(invs m K c ∗ lent c s (outC m s c)) ⊢ Runs c (rsStep n l o o' h h') (fun _ => lent c (s + 1) (outC m (s + 1) c)) :=
  (run_rsStep m K c n l hn hl s (by omega) o o' h h' ho ho').trans (Entails.of_eq (by rw [outC_rs m c s hs]))

theorem run_reduceScatter : iprop(invs m K c ∗ lent c 0 (outC m 0 c)) ⊢ Runs c (reduceScatter c) (fun _ => lent c 7
      (absorb 6 (c.val + 15 - 6) (outC m 6 c) (sent m 6 (prv c)))) := by
  obtain ⟨-, -, l0, l1, l2, l3, l4, l5, l6, -⟩ := left_devs c
  obtain ⟨-, n0, n1, n2, n3, n4, n5, n6, -⟩ := right_devs c
  unfold reduceScatter
  refine run_seq (run_rsStep' m K c _ _ n0 l0 0 (by omega) _ _ _ _ (off1_eq c 0) (off2_eq c 0)) fun _ => ?_
  refine run_seq (run_rsStep' m K c _ _ n1 l1 1 (by omega) _ _ _ _ (off1_eq c 1) (off2_eq c 1)) fun _ => ?_
  refine run_seq (run_rsStep' m K c _ _ n2 l2 2 (by omega) _ _ _ _ (off1_eq c 2) (off2_eq c 2)) fun _ => ?_
  refine run_seq (run_rsStep' m K c _ _ n3 l3 3 (by omega) _ _ _ _ (off1_eq c 3) (off2_eq c 3)) fun _ => ?_
  refine run_seq (run_rsStep' m K c _ _ n4 l4 4 (by omega) _ _ _ _ (off1_eq c 4) (off2_eq c 4)) fun _ => ?_
  refine run_seq (run_rsStep' m K c _ _ n5 l5 5 (by omega) _ _ _ _ (off1_eq c 5) (off2_eq c 5)) fun _ => ?_
  exact run_rsStep m K c _ _ n6 l6 6 (by omega) _ _ _ _ (off1_eq c 6) (off2_eq c 6)

theorem run_allGather : iprop(invs m K c ∗ lent c 7 (outC m 7 c)) ⊢ Runs c (allGather c) (fun _ => ready c 14 (sent m 13 (prv c)) (outC m 14 c)) := by
  obtain ⟨-, -, -, -, -, -, -, -, -, l0, l1, l2, l3, l4, l5⟩ := left_devs c
  obtain ⟨-, -, -, -, -, -, -, -, n0, n1, n2, n3, n4, n5, n6⟩ := right_devs c
  unfold allGather
  refine run_seq (run_agStep m K c _ n0 7 (by omega) (by omega) _ _ _ _ (off4_eq c 0) (off1_eq' c 0)) fun _ => ?_
  refine run_seq (run_giveCredit m K c _ l0 8 (by omega) _ _) fun _ => ?_
  refine run_seq (run_agStep m K c _ n1 8 (by omega) (by omega) _ _ _ _ (off4_eq c 1) (off1_eq' c 1)) fun _ => ?_
  refine run_seq (run_giveCredit m K c _ l1 9 (by omega) _ _) fun _ => ?_
  refine run_seq (run_agStep m K c _ n2 9 (by omega) (by omega) _ _ _ _ (off4_eq c 2) (off1_eq' c 2)) fun _ => ?_
  refine run_seq (run_giveCredit m K c _ l2 10 (by omega) _ _) fun _ => ?_
  refine run_seq (run_agStep m K c _ n3 10 (by omega) (by omega) _ _ _ _ (off4_eq c 3) (off1_eq' c 3)) fun _ => ?_
  refine run_seq (run_giveCredit m K c _ l3 11 (by omega) _ _) fun _ => ?_
  refine run_seq (run_agStep m K c _ n4 11 (by omega) (by omega) _ _ _ _ (off4_eq c 4) (off1_eq' c 4)) fun _ => ?_
  refine run_seq (run_giveCredit m K c _ l4 12 (by omega) _ _) fun _ => ?_
  refine run_seq (run_agStep m K c _ n5 12 (by omega) (by omega) _ _ _ _ (off4_eq c 5) (off1_eq' c 5)) fun _ => ?_
  refine run_seq (run_giveCredit m K c _ l5 13 (by omega) _ _) fun _ => ?_
  exact run_agStep m K c _ n6 13 (by omega) (by omega) _ _ _ _ (off4_eq c 6) (off1_eq' c 6)

theorem outC_seven : setChunk (c.val + 15 - 6) (absorb 6 (c.val + 15 - 6) (outC m 6 c) (sent m 6 (prv c)))
    (k0_pay18 (scale m c) (chunk (c.val + 15 - 6) (absorb 6 (c.val + 15 - 6) (outC m 6 c) (sent m 6 (prv c))))) = outC m 7 c := by
  rw [show outC m 7 c = finish 6 _ _ _ from outC_succ m 6 c]; unfold finish; rw [if_pos rfl]

/-- From the first credit on. -/
theorem run_ring : iprop(invs m K c ∗ lent c 0 (outC m 0 c)) ⊢ Runs c (reduceScatter c >>= fun _ => activate (scale m c) (k0_off3 c) (k0_off3_inb c) >>= fun _ => allGather c)
    (fun _ => ready c 14 (sent m 13 (prv c)) (outC m 14 c)) := by
  refine run_seq (run_reduceScatter m K c) fun _ => ?_
  refine run_seq (drop_left (run_activate c 7 _ (scale m c) _ _ (off3_eq c) _)) fun _ => ?_
  rw [outC_seven]
  exact run_allGather m K c

/-! ## The whole body -/

/-- The device's ghost state at the start: the invariants; its positions; the marks of the cells it pays and of its own; the
    rights to pay them. -/
def ghost : sProp 𝕄 :=
  iprop(invs m K c
    ∗ atPos ER (barCell c) 0 ∅ 0 ∗ atPos ER (crdCell c) 0 ∅ 0 ∗ atPos ER (sndCell c) 0 ∅ 0 ∗ atPos ER (rcvCell c) 0 ∅ 0
    ∗ reached ER (barCell (nxt c)) 0 ∗ reached ER (barCell (prv c)) 0 ∗ reached ER (sndCell c) 0 ∗ reached ER (rcvCell c) 0 ∗ reached ER (crdCell (prv c)) 0
    ∗ dutyTok ER (barCell (nxt c)) 0 false ∗ dutyTok ER (barCell (prv c)) 0 true
    ∗ cred (tallyAt (barCell c) 0 2) ∗ bigSep (Finset.Ico 0 14) (stepToks (F := F) c) ∗ crdToks (F := F) c 0)

/-- What the body starts from. -/
def before (g : OutC F) : sProp 𝕄 :=
  iprop(ghost m K c ∗ sndPay c ∗ (∃ f, rcvPts (F := F) c f) ∗ (∃ W, owes (c : Thread nD τ) (O₀ c) W)
    ∗ pts c cc0_stg0_0 (xstg m c) ∗ pts c cc0_stg1_0 (wstg m c) ∗ pts c cc0_stg2_0 (sxstg m c) ∗ pts c cc0_stg3_0 (swstg m c) ∗ outPts c g)

/-- What it ends with: the device's cells closed at zero, nothing owed, the output complete. -/
def after : sProp 𝕄 :=
  iprop(sndPay c ∗ (∃ f, rcvPts (F := F) c f) ∗ semVal (barCell c) 0 ∗ semVal (crdCell c) 0 ∗ semVal (sndCell c) 0 ∗ semVal (rcvCell c) 0
    ∗ (∃ W, owes (c : Thread nD τ) 0 W)
    ∗ pts c cc0_stg0_0 (xstg m c) ∗ pts c cc0_stg1_0 (wstg m c) ∗ pts c cc0_stg2_0 (sxstg m c) ∗ pts c cc0_stg3_0 (swstg m c) ∗ outPts c (outC m 14 c))

set_option maxHeartbeats 800000 in
theorem run_steps (g : OutC F) : before m K c g ⊢ Runs c (steps c) (fun _ => after m c) := by
  obtain ⟨l1, l3, -⟩ := left_devs c
  obtain ⟨n2, -⟩ := right_devs c
  unfold before ghost steps Runs
  rw [wp_bind]
  iintro ⟨⟨#HI, HatB, HatC, HatS, HatV, #HrBN, #HrBP, #HrS, #HrV, #HrP, HtBN, HtBP, HcB, Htoks, Hcts⟩, Hsnd, ⟨%f0, Hrcv⟩, ⟨%W, HO⟩, Hx, Hw, Hsx, Hsw, Hout⟩
  -- the barrier
  ihave H := (run_meet m K c _ _ l1 n2 W) $$ [HatB HtBN HtBP HcB HO]
  · isplitr; · iexact HI
    isplitl [HatB]; · iexact HatB
    isplitr; · iexact HrBN
    isplitr; · iexact HrBP
    isplitl [HtBN]; · iexact HtBN
    isplitl [HtBP]; · iexact HtBP
    isplitl [HcB]; · iexact HcB
    iexact HO
  iapply (wp_wand frame (wpE (defs₀ (F := F)) 𝒱₀ (c : Thread nD τ) none) Set.univ) $$ H
  iintro %u ⟨HatB, HO⟩
  rw [wp_bind]
  -- the product
  ihave H := (run_product c (xstg m c) (wstg m c) g) $$ [Hx Hw Hout]
  · isplitl [Hx]; · iexact Hx
    isplitl [Hw]; · iexact Hw
    iexact Hout
  iapply (wp_wand frame (wpE (defs₀ (F := F)) 𝒱₀ (c : Thread nD τ) none) Set.univ) $$ H
  iintro %u ⟨Hx, Hw, Hout⟩
  rw [wp_bind]
  -- the first credit
  ihave H := (run_giveCredit m K c _ l3 0 (by omega) f0 (outC m 0 c)) $$ [HatC HatS HatV Htoks Hsnd Hout Hcts HO Hrcv]
  · isplitr; · iexact HI
    unfold ready core
    isplitl [HatC HatS HatV Htoks Hsnd Hout]
    · isplitl [HatC]; · iexact HatC
      isplitl [HatS]; · iexact HatS
      isplitl [HatV]; · iexact HatV
      isplitr; · iexact HrS
      isplitl [Htoks]; · iexact Htoks
      isplitl [Hsnd]; · iexact Hsnd
      iexact Hout
    isplitr; · iexact HrV
    isplitr; · iexact HrP
    isplitl [Hcts]; · iexact Hcts
    isplitl [HO]; · iexact HO
    iexact Hrcv
  iapply (wp_wand frame (wpE (defs₀ (F := F)) 𝒱₀ (c : Thread nD τ) none) Set.univ) $$ H
  iintro %u Hlent
  rw [wp_bind]
  -- the scales
  ihave H := (run_scales m c) $$ [Hsx Hsw]
  · isplitl [Hsx]; · iexact Hsx
    iexact Hsw
  iapply (wp_wand frame (wpE (defs₀ (F := F)) 𝒱₀ (c : Thread nD τ) none) Set.univ) $$ H
  iintro %sc ⟨%hsc, Hsx, Hsw⟩
  subst hsc
  -- the ring
  ihave H := (run_ring m K c) $$ [Hlent]
  · isplitr; · iexact HI
    iexact Hlent
  iapply (wp_fupd frame (wpE (defs₀ (F := F)) 𝒱₀ (c : Thread nD τ) none) Set.univ)
  iapply (wp_wand frame (wpE (defs₀ (F := F)) 𝒱₀ (c : Thread nD τ) none) Set.univ) $$ H
  iintro %u Hready
  unfold ready core
  icases Hready with ⟨⟨HatC, HatS, HatV, -, -, Hsnd, Hout⟩, -, -, -, ⟨%W', HO⟩, Hrcv⟩
  unfold invs
  icases HI with ⟨#HIbar, #HIcrd, #HIsnd, #HIrcv, -⟩
  imod (Rounds.cell_close ER (sched m) (Set.mem_univ (K (c, 0))) (fun h => h) (R := 1) (duties_bar_later m c)) $$ [HatB] with HzB
  · isplitr; · iexact HIbar
    iexact HatB
  imod (Rounds.cell_close ER (sched m) (Set.mem_univ (K (c, 1))) (fun h => h) (R := 14) (duties_later m c _ crd_ne_bar)) $$ [HatC] with HzC
  · isplitr; · iexact HIcrd
    iexact HatC
  imod (Rounds.cell_close ER (sched m) (Set.mem_univ (K (c, 2))) (fun h => h) (R := 14) (duties_later m c _ snd_ne_bar)) $$ [HatS] with HzS
  · isplitr; · iexact HIsnd
    iexact HatS
  imod (Rounds.cell_close ER (sched m) (Set.mem_univ (K (c, 3))) (fun h => h) (R := 14) (duties_later m c _ rcv_ne_bar)) $$ [HatV] with HzV
  · isplitr; · iexact HIrcv
    iexact HatV
  imodintro
  rw [oweR_done, oweC_done c 14 (le_refl 14), add_zero]
  unfold after
  isplitl [Hsnd]; · iexact Hsnd
  isplitl [Hrcv]; · iexists _; iexact Hrcv
  isplitl [HzB]; · iexact HzB
  isplitl [HzC]; · iexact HzC
  isplitl [HzS]; · iexact HzS
  isplitl [HzV]; · iexact HzV
  isplitl [HO]; · iexists _; iexact HO
  isplitl [Hx]; · iexact Hx
  isplitl [Hw]; · iexact Hw
  isplitl [Hsx]; · iexact Hsx
  isplitl [Hsw]; · iexact Hsw
  iexact Hout

end Cert.KernelIdeal.Hand

end
-- ==== Proof.Launch.lean ====
/- The launch: the body against the pipeline's obligation, the counters' ghost state dealt to the eight devices, and the run. -/
module

public import proofs.«01_k».proof.Proof.Chain
public import Idealize.ShloMosaic.Lib.Pipeline.CollectiveSegs

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg)

/-- The memory at the launch: any contents, every counter zero. -/
def s₀ : MemSt nD τ sig (Elt F) := ⟨m, fun _ => 0, ρ⟩

/-! ## The pipeline's data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What the body starts from besides its staged blocks. -/
def start (c : Dev nD) : sProp 𝕄 := iprop(∃ K, ghost m K c)
def Φ₀ (c : Dev nD) : sProp 𝕄 := iprop(start m c ∗ sndPay (F := F) c ∗ ∃ f, rcvPts (F := F) c f)
/-- What it ends with besides them. -/
def Φ₁ (c : Dev nD) : sProp 𝕄 :=
  iprop(sndPay (F := F) c ∗ (∃ f, rcvPts (F := F) c f) ∗ semVal (barCell c) 0 ∗ semVal (crdCell c) 0 ∗ semVal (sndCell c) 0 ∗ semVal (rcvCell c) 0)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m c
    | ⟨1, _⟩ => wstg m c
    | ⟨2, _⟩ => sxstg m c
    | ⟨3, _⟩ => swstg m c
    | ⟨4, _⟩ => outC m 14 c
  Φ t := match t with
    | ⟨0, _⟩ => Φ₀ m c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 5) ∗ Φ (1 : Fin 5) ∗ Φ (2 : Fin 5) ∗ Φ (3 : Fin 5) ∗ Φ (4 : Fin 5)) := bigSep_W0 Φ

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's obligation -/

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop(Φ₀ m c ∗ (dats m ρ 0 c).owesAt 0 t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

def bodyPost (c : Dev nD) : sProp 𝕄 :=
  iprop(Φ₁ c ∗ (dats m ρ 0 c).owesAt 0 t₀.succ ∗ stg c cc0_stg0_0 (xstg m c) ∗ stg c cc0_stg1_0 (wstg m c)
    ∗ stg c cc0_stg2_0 (sxstg m c) ∗ stg c cc0_stg3_0 (swstg m c) ∗ stg c cc0_stg4_0 (outC m 14 c))

set_option maxHeartbeats 800000 in
theorem sound_body (c : Dev nD) :
    bodyPre m ρ c ⊢ wp frame (wpE (defs₀ (F := F)) 𝒱₀ c none) Set.univ
      (cc0_body (F := F) (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _) (Memref.whole cc0_stg4_0) (Memref.isWhole_whole _)
        (Memref.whole cc0_scratch0) (Memref.isWhole_whole _) (Memref.whole cc0_scratch1) (Memref.isWhole_whole _) cc0_scratch2 cc0_scratch3 cc0_scratch4)
      (fun _ => bodyPost m ρ c) := by
  rw [body_eq_steps, wp_deviceId]
  unfold bodyPre Φ₀ start
  iintro ⟨⟨⟨%K, Hg⟩, Hsnd, Hrcv⟩, Ho, ⟨%d0, %g0, %hg0, Hx⟩, ⟨%d1, %g1, %hg1, Hw⟩, ⟨%d2, %g2, %hg2, Hsx⟩, ⟨%d3, %g3, %hg3, Hsw⟩, ⟨%d4, %g4, %hg4, Hout⟩⟩
  have h0 : g0 = xstg m c := by rw [hg0]; unfold Dat.before; rw [if_pos (fetch0_0 t₀)]; rfl
  have h1 : g1 = wstg m c := by rw [hg1]; unfold Dat.before; rw [if_pos (fetch0_1 t₀)]; rfl
  have h2 : g2 = sxstg m c := by rw [hg2]; unfold Dat.before; rw [if_pos (fetch0_2 t₀)]; rfl
  have h3 : g3 = swstg m c := by rw [hg3]; unfold Dat.before; rw [if_pos (fetch0_3 t₀)]; rfl
  subst h0 h1 h2 h3
  unfold Dat.owesAt Pipeline.owesWithin
  icases Ho with ⟨%W, %hW, HO⟩
  rw [show (dats m ρ 0 c).owed t₀.castSucc = O₀ c from rfl]
  ihave H := (run_steps m K c g4) $$ [Hg Hsnd Hrcv HO Hx Hw Hsx Hsw Hout]
  · unfold before
    isplitl [Hg]; · iexact Hg
    isplitl [Hsnd]; · iexact Hsnd
    isplitl [Hrcv]; · iexact Hrcv
    isplitl [HO]; · iexists W; iexact HO
    isplitl [Hx]; · iexact Hx
    isplitl [Hw]; · iexact Hw
    isplitl [Hsx]; · iexact Hsx
    isplitl [Hsw]; · iexact Hsw
    iexact Hout
  iapply (wp_wand frame (wpE (defs₀ (F := F)) 𝒱₀ (c : Thread nD τ) none) Set.univ) $$ H
  iintro %u H
  unfold after bodyPost Φ₁ Dat.owesAt Pipeline.owesWithin
  rw [show (dats m ρ 0 c).owed t₀.succ = 0 from rfl]
  icases H with ⟨Hsnd, Hrcv, HzB, HzC, HzS, HzV, ⟨%W', HO⟩, Hx, Hw, Hsx, Hsw, Hout⟩
  isplitl [Hsnd Hrcv HzB HzC HzS HzV]
  · isplitl [Hsnd]; · iexact Hsnd
    isplitl [Hrcv]; · iexact Hrcv
    isplitl [HzB]; · iexact HzB
    isplitl [HzC]; · iexact HzC
    isplitl [HzS]; · iexact HzS
    iexact HzV
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  isplitl [Hsx]
  · iexists _; isplitr; · (ipureintro; rfl)
    iexact Hsx
  isplitl [Hsw]
  · iexists _; isplitr; · (ipureintro; rfl)
    iexact Hsw
  iexists _; isplitr; · (ipureintro; rfl)
  iexact Hout

theorem prog_eq (t : Fin cfg0.N) : (defs₀ (F := F)) Proc.tc 0 (t, cfg0.slots t) = bodyAt0 (F := F) t := rfl

/-- The point's body runs on the staging buffers whole. -/
theorem bodyAt_eq : bodyAt0 (F := F) t₀ = cc0_body (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_scratch0) (Memref.isWhole_whole _) (Memref.whole cc0_scratch1) (Memref.isWhole_whole _) cc0_scratch2 cc0_scratch3 cc0_scratch4 := by
  unfold bodyAt0
  have h0 : cfg0.slots t₀ (0 : Fin 5) = (0 : Fin 1) := Subsingleton.elim (α := Fin 1) _ _
  have h1 : cfg0.slots t₀ (1 : Fin 5) = (0 : Fin 1) := Subsingleton.elim (α := Fin 1) _ _
  have h2 : cfg0.slots t₀ (2 : Fin 5) = (0 : Fin 1) := Subsingleton.elim (α := Fin 1) _ _
  have h3 : cfg0.slots t₀ (3 : Fin 5) = (0 : Fin 1) := Subsingleton.elim (α := Fin 1) _ _
  have h4 : cfg0.slots t₀ (4 : Fin 5) = (0 : Fin 1) := Subsingleton.elim (α := Fin 1) _ _
  generalize cfg0.slots t₀ (0 : Fin 5) = a0 at h0 ⊢
  generalize cfg0.slots t₀ (1 : Fin 5) = a1 at h1 ⊢
  generalize cfg0.slots t₀ (2 : Fin 5) = a2 at h2 ⊢
  generalize cfg0.slots t₀ (3 : Fin 5) = a3 at h3 ⊢
  generalize cfg0.slots t₀ (4 : Fin 5) = a4 at h4 ⊢
  subst h0 h1 h2 h3 h4
  rfl

theorem after_0 (c : Dev nD) : (dats m ρ 0 c).after (0 : Fin 5) t₀ = xstg m c := rfl
theorem after_1 (c : Dev nD) : (dats m ρ 0 c).after (1 : Fin 5) t₀ = wstg m c := rfl
theorem after_2 (c : Dev nD) : (dats m ρ 0 c).after (2 : Fin 5) t₀ = sxstg m c := rfl
theorem after_3 (c : Dev nD) : (dats m ρ 0 c).after (3 : Fin 5) t₀ = swstg m c := rfl
theorem after_4 (c : Dev nD) : (dats m ρ 0 c).after (4 : Fin 5) t₀ = outC m 14 c := by dsimp only [dats]

set_option maxRecDepth 4000 in
/-- The library's obligation for the body of device `c`. -/
theorem body_obligation (c : Dev nD) : BodyObligation (dats (F := F) m ρ 0 c) (defs₀ (F := F)) 𝒱₀ 0 Set.univ := fun t => by
  rw [fin_N t]
  rw [bigSep_W, bigSep_W]
  simp only [owns_whole_eq]
  rw [prog_eq t₀, bodyAt_eq, after_0, after_1, after_2, after_3, after_4]
  rw [show (dats m ρ 0 c).Φ t₀.castSucc = Φ₀ m c from rfl, show (dats m ρ 0 c).Φ t₀.succ = Φ₁ c from rfl]
  have H := sound_body m ρ c
  unfold bodyPre bodyPost at H
  refine BIBase.Entails.trans ?_ (H.trans ?_)
  · exact BIBase.Entails.rfl
  · apply wp_mono
    intro u
    exact BIBase.Entails.rfl

/-! ## The ghost state dealt -/

/-- The scoped counters of the kernel; -/
abbrev osem : Fin 3 → SemLoc sig := fun | 0 => .reg cc0_scratch4.sem | 1 => .dma cc0_scratch2.sem | 2 => .dma cc0_scratch3.sem
/-- all four of the ring's. -/
abbrev csem : Fin 4 → SemLoc sig := fun | 0 => .reg barS.sem | 1 => .reg cc0_scratch4.sem | 2 => .dma cc0_scratch2.sem | 3 => .dma cc0_scratch3.sem
abbrev kcell (ck : Dev nD × Fin 4) : GSem nD τ sig := ((ck.1 : Thread nD τ), csem ck.2)

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide
theorem kcell_injective : Function.Injective (kcell : Dev nD × Fin 4 → GSem nD τ sig) := by
  rintro ⟨c, k⟩ ⟨c', k'⟩ h
  have h1 : c = c' := congrArg (fun g : GSem nD τ sig => g.1.1) h
  have h2 : k = k' := csem_injective (congrArg Prod.snd h)
  subst h1 h2; rfl
def ringCells : Finset (GSem nD τ sig) := Finset.univ.map ⟨kcell, kcell_injective⟩

/-- The rights to pay, as made: a device, and either a unit at its barrier or a round of one of its other three cells. -/
abbrev Tok : Type := Dev nD × (Bool ⊕ Fin 3 × Fin 14)
def tokOf (x : Tok) : GSem nD τ sig × ℕ × Bool := match x.2 with
  | .inl b => (barCell x.1, 0, b)
  | .inr kr => (kcell (x.1, kr.1.succ), kr.2.val, false)
theorem tokOf_injective : Function.Injective tokOf := by
  rintro ⟨c, j⟩ ⟨c', j'⟩ h
  have h1 : c = c' := by
    have := congrArg (fun x : GSem nD τ sig × ℕ × Bool => x.1.1.1) h
    rcases j with b | ⟨k, r⟩ <;> rcases j' with b' | ⟨k', r'⟩ <;> exact this
  subst h1
  have hs := congrArg (fun x : GSem nD τ sig × ℕ × Bool => x.1.2) h
  have hr := congrArg (fun x : GSem nD τ sig × ℕ × Bool => x.2) h
  rcases j with b | ⟨k, r⟩ <;> rcases j' with b' | ⟨k', r'⟩
  · have : b = b' := congrArg Prod.snd hr
    subst this; rfl
  · exact absurd (csem_injective (a₁ := 0) (a₂ := k'.succ) hs) (Fin.succ_ne_zero k').symm
  · exact absurd (csem_injective (a₁ := k.succ) (a₂ := 0) hs) (Fin.succ_ne_zero k)
  · have h2 : k = k' := Fin.succ_injective _ (csem_injective (a₁ := k.succ) (a₂ := k'.succ) hs)
    have h3 : r = r' := Fin.ext (congrArg Prod.fst hr)
    subst h2 h3; rfl
def ringToks : Finset (GSem nD τ sig × ℕ × Bool) := Finset.univ.map ⟨tokOf, tokOf_injective⟩

def u₀ : UU := (initOf (Pipeline.cells cfgs cellOf_inj) (Pipeline.launchToks cfgs cellOf_inj), initOf ringCells ringToks)

/-- The rights to pay a cell of fourteen rounds. -/
def roundToks (g : GSem nD τ sig) : sProp 𝕄 := bigSep (Finset.Ico 0 14) fun r => dutyTok ER g r false
/-- The rights to pay device `c`'s own cells. -/
def toks (c : Dev nD) : sProp 𝕄 :=
  iprop((dutyTok ER (barCell c) 0 false ∗ dutyTok ER (barCell c) 0 true) ∗ roundToks (F := F) (crdCell c) ∗ roundToks (F := F) (sndCell c) ∗ roundToks (F := F) (rcvCell c))

/-- What the launch deals device `c`. -/
def G (c : Dev nD) : sProp 𝕄 :=
  iprop((bigSep Finset.univ fun k : Fin 4 => roundState ER (sched m) (kcell (c, k)) 0)
    ∗ (bigSep Finset.univ fun k : Fin 4 => iprop(atPos ER (kcell (c, k)) 0 ∅ 0 ∗ reached ER (kcell (c, k)) 0)) ∗ toks c)

theorem bigSep_fin3 (Φ : Fin 3 → sProp 𝕄) : bigSep Finset.univ Φ = iprop(Φ 0 ∗ Φ 1 ∗ Φ 2) := bigSep_univ_eq_bigSepL [0, 1, 2] (by decide) (by decide) Φ
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ
theorem bigSep_bool (Φ : Bool → sProp 𝕄) : bigSep Finset.univ Φ = iprop(Φ false ∗ Φ true) := bigSep_univ_eq_bigSepL [false, true] (by decide) (by decide) Φ
theorem bigSep_rounds (Φ : ℕ → sProp 𝕄) : (bigSep Finset.univ fun r : Fin 14 => Φ r.val) = bigSep (Finset.Ico 0 14) Φ := by
  rw [show Finset.Ico 0 14 = (Finset.univ : Finset (Fin 14)).map Fin.valEmbedding from by decide, bigSep_map]; rfl

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 4 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks roundToks
    rw [BI.bigSep_univ_sum, bigSep_bool, bigSep_univ_prod, bigSep_fin3, ← bigSep_rounds, ← bigSep_rounds, ← bigSep_rounds]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := ℕ) (Name := ℕ) (U := UU) (Lvl := ℕ) (Val := Elt F) (τ := τ) osem c : sProp 𝕄)
    = iprop(semVal (crdCell c) 0 ∗ semVal (sndCell c) 0 ∗ semVal (rcvCell c) 0) := by
  rw [Pipeline.ownSems0_eq_of_list c osem [0, 1, 2] (by decide) (by decide)]; rfl
theorem unscopedSems0_eq (c : Dev nD) : (unscopedSems0 c : sProp 𝕄) = semVal (barCell c) 0 := by
  unfold unscopedSems0; rw [bigSep_eq_bigSepL_of_eq [SemLoc.reg barS.sem] (by decide) (by decide)]; rfl

theorem sems0_eq (c : Dev nD) :
    iprop(Pipeline.ownSems0 (Ix := ℕ) (Name := ℕ) (U := UU) (Lvl := ℕ) (Val := Elt F) (τ := τ) osem c ∗ unscopedSems0 c)
      ⊢ (bigSep Finset.univ fun k : Fin 4 => semVal (kcell (c, k)) 0 : sProp 𝕄) := by
  rw [ownSems0_eq, unscopedSems0_eq, bigSep_fin4]
  iintro ⟨⟨HC, HS, HV⟩, HB⟩
  isplitl [HB]; · iexact HB
  isplitl [HC]; · iexact HC
  isplitl [HS] <;> iassumption

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 4 => semVal (kcell (c, k)) 0) ∗ bigSep Finset.univ fun k : Fin 4 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What every device may know: the invariants of all the cells, and that all stand at round 0 at least. -/
def records (K : Dev nD × Fin 4 → ℕ) : sProp 𝕄 :=
  iprop((bigSep Finset.univ fun ck : Dev nD × Fin 4 => cellInv ER (sched m) (K ck) (kcell ck))
    ∗ bigSep Finset.univ fun ck : Dev nD × Fin 4 => reached ER (kcell ck) 0)

instance records_persistent (K : Dev nD × Fin 4 → ℕ) : BI.Persistent (records m K) := by unfold records; infer_instance

theorem inv_at (K : Dev nD × Fin 4 → ℕ) (ck : Dev nD × Fin 4) :
    (bigSep Finset.univ fun ck : Dev nD × Fin 4 => (cellInv ER (sched m) (K ck) (kcell ck) : sProp 𝕄)) ⊢ cellInv ER (sched m) (K ck) (kcell ck) :=
  bigSep_elim (Finset.mem_univ ck)
theorem reached_at (ck : Dev nD × Fin 4) :
    (bigSep Finset.univ fun ck : Dev nD × Fin 4 => (reached ER (kcell ck) 0 : sProp 𝕄)) ⊢ reached ER (kcell ck) 0 :=
  bigSep_elim (Finset.mem_univ ck)

/-- The rights device `c` pays with. -/
def payToks (c : Dev nD) : sProp 𝕄 :=
  iprop((dutyTok ER (barCell (nxt c)) 0 false ∗ dutyTok ER (barCell (prv c)) 0 true)
    ∗ roundToks (F := F) (crdCell (prv c)) ∗ roundToks (F := F) (sndCell c) ∗ roundToks (F := F) (rcvCell (nxt c)))
/-- What is device `c`'s alone: its positions, and those rights. -/
def own (c : Dev nD) : sProp 𝕄 :=
  iprop((atPos ER (barCell c) 0 ∅ 0 ∗ atPos ER (crdCell c) 0 ∅ 0 ∗ atPos ER (sndCell c) 0 ∅ 0 ∗ atPos ER (rcvCell c) 0 ∅ 0) ∗ payToks (F := F) c)
/-- What the devices make together of what they are dealt. -/
def G' (c : Dev nD) : sProp 𝕄 := iprop(∃ K, records m K ∗ own (F := F) c)

/-- The rights dealt around the ring. -/
theorem toks_around : (bigSep Finset.univ fun c : Dev nD => (toks c : sProp 𝕄)) ⊢ bigSep Finset.univ fun c : Dev nD => payToks c := by
  unfold toks payToks
  simp only [bigSep_sep']
  rw [bigSep_univ_equiv ring (fun c : Dev nD => (dutyTok ER (barCell c) 0 false : sProp 𝕄)),
    bigSep_univ_equiv ring.symm (fun c : Dev nD => (dutyTok ER (barCell c) 0 true : sProp 𝕄)),
    bigSep_univ_equiv ring.symm (fun c : Dev nD => (roundToks (crdCell c) : sProp 𝕄)),
    bigSep_univ_equiv ring (fun c : Dev nD => (roundToks (rcvCell c) : sProp 𝕄))]
  exact BI.Entails.refl _

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 4 => iprop(∃ κ : ℕ, cellInv ER (sched m) κ (kcell ck))),
    bigSep_congr (s := Finset.univ) (fun (c : Dev nD) _ => bigSep_sep' Finset.univ (fun k : Fin 4 => (atPos ER (kcell (c, k)) 0 ∅ 0 : sProp 𝕄)) (fun k => reached ER (kcell (c, k)) 0)),
    bigSep_sep', ← bigSep_univ_prod (fun ck : Dev nD × Fin 4 => (reached ER (kcell ck) 0 : sProp 𝕄))]
  iintro ⟨HI, ⟨Hat, #HR⟩, Htok⟩
  ihave HK := (BI.bigSep_exists_pi Finset.univ (fun (ck : Dev nD × Fin 4) (κ : ℕ) => (cellInv ER (sched m) κ (kcell ck) : sProp 𝕄))) $$ HI
  icases HK with ⟨%K, #HI⟩
  ihave Htk := (toks_around (F := F)) $$ Htok
  iapply (bigSep_with_persistent (R := records m K) (Φ := own) fun c _ => show iprop(records m K ∗ own c) ⊢ G' m c from by
    unfold G'; iintro H; iexists K; iexact H)
  isplitr
  · unfold records; isplitl; · iexact HI
    iexact HR
  · iapply ((Entails.of_eq (bigSep_sep' Finset.univ (fun c : Dev nD => bigSep Finset.univ fun k : Fin 4 => (atPos ER (kcell (c, k)) 0 ∅ 0 : sProp 𝕄)) payToks).symm).trans
      (bigSep_mono fun c _ => show _ ⊢ own c from Entails.of_eq (by unfold own; rw [bigSep_fin4])))
    isplitl [Hat]; · iexact Hat
    iexact Htk

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch's credit -/

theorem cell_dev_eq {a b : Dev nD} {sm sm' : SemLoc sig} (h : (((a : Thread nD τ), sm) : GSem nD τ sig) = ((b : Thread nD τ), sm')) : a = b :=
  congrArg (fun g : GSem nD τ sig => g.1.1) h
theorem cell_sem_eq {a b : Dev nD} {sm sm' : SemLoc sig} (h : (((a : Thread nD τ), sm) : GSem nD τ sig) = ((b : Thread nD τ), sm')) : sm = sm' :=
  congrArg Prod.snd h

theorem O₀_apply (d : Dev nD) (g : GSem nD τ sig) (u : ℕ) : O₀ d g u = (((if g = rcvCell (nxt d) ∧ u ∈ Finset.Ico 0 14 then N else 0)
    + (if g = crdCell (prv d) ∧ u ∈ Finset.Ico 0 14 then 1 else 0)) + (if g = barCell (nxt d) ∧ u = 0 then 1 else 0)) + (if g = barCell (prv d) ∧ u = 0 then 1 else 0) := by
  unfold O₀
  rw [Pi.add_apply, Finsupp.add_apply, Pi.add_apply, Finsupp.add_apply, Pi.add_apply, Finsupp.add_apply, oweR_apply, oweC_apply, tallyAt_apply, tallyAt_apply]

/-- What device `d` owes device `c`'s barrier: a unit for each side it is a neighbour on. -/
theorem owed_bar (d c : Dev nD) (u : ℕ) : O₀ d (barCell c) u
    = (if d = prv c then (if u = 0 then 1 else 0) else 0) + (if d = nxt c then (if u = 0 then 1 else 0) else 0) := by
  rw [O₀_apply, if_neg (fun h => rcv_ne_bar (cell_sem_eq h.1).symm), if_neg (fun h => crd_ne_bar (cell_sem_eq h.1).symm), zero_add, zero_add]
  congr 1
  · by_cases h : d = prv c
    · subst h; rw [nxt_prv, if_pos rfl]; simp
    · rw [if_neg (fun h' => h (by rw [cell_dev_eq h'.1, prv_nxt])), if_neg h]
  · by_cases h : d = nxt c
    · subst h; rw [prv_nxt, if_pos rfl]; simp
    · rw [if_neg (fun h' => h (by rw [cell_dev_eq h'.1, nxt_prv])), if_neg h]

/-- What it owes device `c`'s receive cell: every copy, if it is the left neighbour. -/
theorem owed_rcv (d c : Dev nD) (u : ℕ) : O₀ d (rcvCell c) u = if d = prv c then (if u ∈ Finset.Ico 0 14 then N else 0) else 0 := by
  rw [O₀_apply, if_neg (c := rcvCell c = crdCell (prv d) ∧ _) (fun h => rcv_ne_crd (cell_sem_eq h.1)),
    if_neg (c := rcvCell c = barCell (nxt d) ∧ _) (fun h => rcv_ne_bar (cell_sem_eq h.1)),
    if_neg (c := rcvCell c = barCell (prv d) ∧ _) (fun h => rcv_ne_bar (cell_sem_eq h.1)), add_zero, add_zero, add_zero]
  by_cases h : d = prv c
  · subst h; rw [nxt_prv, if_pos rfl]; simp only [true_and]
  · rw [if_neg (fun h' => h (by rw [cell_dev_eq h'.1, prv_nxt])), if_neg h]

/-- What it owes device `c`'s credit cell: every credit, if it is the right neighbour. -/
theorem owed_crd (d c : Dev nD) (u : ℕ) : O₀ d (crdCell c) u = if d = nxt c then (if u ∈ Finset.Ico 0 14 then 1 else 0) else 0 := by
  rw [O₀_apply, if_neg (c := crdCell c = rcvCell (nxt d) ∧ _) (fun h => rcv_ne_crd (cell_sem_eq h.1).symm),
    if_neg (c := crdCell c = barCell (nxt d) ∧ _) (fun h => crd_ne_bar (cell_sem_eq h.1)),
    if_neg (c := crdCell c = barCell (prv d) ∧ _) (fun h => crd_ne_bar (cell_sem_eq h.1)), add_zero, add_zero, zero_add]
  by_cases h : d = nxt c
  · subst h; rw [prv_nxt, if_pos rfl]; simp only [true_and]
  · rw [if_neg (fun h' => h (by rw [cell_dev_eq h'.1, nxt_prv])), if_neg h]

/-- A tally at one cell from its value at every round. -/
theorem tally_ext (g : GSem nD τ sig) (κ : Tally ℕ) (T : CellTallies nD τ sig ℕ) (h : ∀ u, κ u = T g u) (hT : ∀ g', g' ≠ g → T g' = 0) : tallyOn g κ = T := by
  have hκ : κ = T g := Finsupp.ext h
  subst hκ
  funext g'
  by_cases hg : g' = g
  · subst hg; unfold tallyOn; rw [Pi.single_eq_same]
  · unfold tallyOn; rw [Pi.single_eq_of_ne hg, hT g' hg]

theorem sum_tally_ne (g : GSem nD τ sig) (n : ℕ) (g' : GSem nD τ sig) (h : g' ≠ g) :
    (∑ k ∈ Finset.Ico 0 14, (tallyAt g k n : CellTallies nD τ sig ℕ)) g' = 0 := by
  refine Finsupp.ext fun u => ?_
  rw [sum_tally_apply, if_neg (fun h' => h h'.1), Finsupp.zero_apply]

theorem launch_bar (c : Dev nD) :
    tallyOn (barCell c) (launchCredit (Pipeline.owing O₀) 0 (barCell c)) = (tallyAt (barCell c) 0 2 : CellTallies nD τ sig ℕ) := by
  refine tally_ext _ _ _ (fun u => ?_) (fun g hg => ?_)
  · rw [Pipeline.launchCredit_owing, Finset.sum_congr rfl fun d _ => owed_bar d c u, Finset.sum_add_distrib,
      Finset.sum_ite_eq' Finset.univ (nxt c), Finset.sum_ite_eq' Finset.univ (prv c), if_pos (Finset.mem_univ _), if_pos (Finset.mem_univ _), tallyAt_apply]
    by_cases hu : u = 0
    · rw [if_pos hu, if_pos ⟨rfl, hu⟩]
    · rw [if_neg hu, if_neg (fun h => hu h.2)]
  · refine Finsupp.ext fun u => ?_
    rw [tallyAt_apply, if_neg (fun h => hg h.1), Finsupp.zero_apply]

theorem launch_rcv (c : Dev nD) :
    tallyOn (rcvCell c) (launchCredit (Pipeline.owing O₀) 0 (rcvCell c)) = (∑ k ∈ Finset.Ico 0 14, tallyAt (rcvCell c) k N : CellTallies nD τ sig ℕ) := by
  refine tally_ext _ _ _ (fun u => ?_) (fun g hg => sum_tally_ne _ _ g hg)
  rw [Pipeline.launchCredit_owing, Finset.sum_congr rfl fun d _ => owed_rcv d c u, Finset.sum_ite_eq' Finset.univ (prv c), if_pos (Finset.mem_univ _), sum_tally_apply]
  simp only [true_and]

theorem launch_crd (c : Dev nD) :
    tallyOn (crdCell c) (launchCredit (Pipeline.owing O₀) 0 (crdCell c)) = (∑ k ∈ Finset.Ico 0 14, tallyAt (crdCell c) k 1 : CellTallies nD τ sig ℕ) := by
  refine tally_ext _ _ _ (fun u => ?_) (fun g hg => sum_tally_ne _ _ g hg)
  rw [Pipeline.launchCredit_owing, Finset.sum_congr rfl fun d _ => owed_crd d c u, Finset.sum_ite_eq' Finset.univ (nxt c), if_pos (Finset.mem_univ _), sum_tally_apply]
  simp only [true_and]

theorem creds (c : Dev nD) :
    (Pipeline.launchCred O₀ c : sProp 𝕄) ⊢ iprop(cred (tallyAt (barCell c) 0 2)
      ∗ (bigSep (Finset.Ico 0 14) fun k => cred (tallyAt (crdCell c) k 1)) ∗ (bigSep (Finset.Ico 0 14) fun k => cred (tallyAt (rcvCell c) k N))) := by
  unfold Pipeline.launchCred
  rw [bigSep_univ_at _ (SemLoc.reg barS.sem), launch_bar, ← Pipeline.cred_finsetSum _ (fun k => tallyAt (crdCell c) k 1),
    ← Pipeline.cred_finsetSum _ (fun k => tallyAt (rcvCell c) k N), ← launch_crd, ← launch_rcv,
    bigSep_erase (Finset.mem_erase.mpr ⟨crd_ne_bar, Finset.mem_univ _⟩)]
  refine sep_mono_right (sep_mono_right ?_)
  exact bigSep_elim (Finset.mem_erase.mpr ⟨rcv_ne_crd, Finset.mem_erase.mpr ⟨rcv_ne_bar, Finset.mem_univ _⟩⟩)

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G' own records payToks roundToks
  iintro ⟨-, #Hlev, Hcr, -, ⟨%K, ⟨#HI, #HR⟩, ⟨HaB, HaC, HaS, HaV⟩, ⟨HtBN, HtBP⟩, HtC, HtS, HtV⟩⟩
  ihave Hc := (creds (F := F) c) $$ Hcr
  icases Hc with ⟨HcB, HcC, HcV⟩
  imodintro
  unfold start ghost invs crdToks
  isplitl
  · iexists K
    isplitr
    · isplitr; · iapply (inv_at m K (c, 0)); iexact HI
      isplitr; · iapply (inv_at m K (c, 1)); iexact HI
      isplitr; · iapply (inv_at m K (c, 2)); iexact HI
      isplitr; · iapply (inv_at m K (c, 3)); iexact HI
      isplitr; · iapply (inv_at m K (nxt c, 0)); iexact HI
      isplitr; · iapply (inv_at m K (prv c, 0)); iexact HI
      isplitr; · iapply (inv_at m K (prv c, 1)); iexact HI
      isplitr; · iapply (inv_at m K (nxt c, 3)); iexact HI
      iexact Hlev
    isplitl [HaB]; · iexact HaB
    isplitl [HaC]; · iexact HaC
    isplitl [HaS]; · iexact HaS
    isplitl [HaV]; · iexact HaV
    isplitr; · iapply (reached_at (F := F) (nxt c, 0)); iexact HR
    isplitr; · iapply (reached_at (F := F) (prv c, 0)); iexact HR
    isplitr; · iapply (reached_at (F := F) (c, 2)); iexact HR
    isplitr; · iapply (reached_at (F := F) (c, 3)); iexact HR
    isplitr; · iapply (reached_at (F := F) (prv c, 1)); iexact HR
    isplitl [HtBN]; · iexact HtBN
    isplitl [HtBP]; · iexact HtBP
    isplitl [HcB]; · iexact HcB
    isplitl [HcC HcV HtV HtS]
    · unfold stepToks
      rw [bigSep_sep', bigSep_sep', bigSep_sep']
      isplitl [HcC]; · iexact HcC
      isplitl [HcV]; · iexact HcV
      isplitl [HtV]; · iexact HtV
      iexact HtS
    iexact HtC
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ sndPay
  iintro ⟨Hs, -, Hsnd, Hrcv⟩
  isplitl [Hs]; · iexact Hs
  isplitl [Hsnd]; · iexact Hsnd
  iexact Hrcv

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ sndPay
  iintro ⟨Hsnd, Hrcv, HzB, HzC, HzS, HzV⟩
  isplitl [HzB]; · iexact HzB
  isplitl [HzC HzS HzV]
  · isplitl [HzC]; · iexact HzC
    isplitl [HzS] <;> iassumption
  isplitl [Hsnd] <;> iassumption

theorem waits (c : Dev nD) : (levAts L lv : sProp 𝕄) ⊢ Pipeline.cellsWaits cfgs (dats m ρ) 0 0 c :=
  Pipeline.cellsWaits_intro cfgs (dats m ρ) 0 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every fair run of the eight devices from zero counters ends, with every windowed array at its computed contents and every
    counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Hand

end
-- ==== Proof.Final.lean ====
/- What the arrays hold at the end of a run of the eight devices: the arguments what they held, the result what the fourteen
   steps leave. So the claims about the run alone. -/
module

public import proofs.«01_k».proof.Proof.Launch
public import proofs.«01_k».proof.Defs
public import proofs.«01_k».proof.Proof.Gen.Kernel
public import Idealize.ShloMosaic.Lib.Pipeline.Value

@[expose] public section

noncomputable section

namespace Cert.KernelIdeal.Hand

open Idealize.ShloMosaic Idealize.ShloMosaic.TcCoe
open Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

theorem finalA_0 (c : Dev nD) : finalA m ρ c (0 : Fin 5) = m ((c : Thread nD τ).loc main_arg0) :=
  (dats (F := F) m ρ 0 c).arrAt_in (0 : Fin 5) rfl _
theorem finalA_1 (c : Dev nD) : finalA m ρ c (1 : Fin 5) = m ((c : Thread nD τ).loc main_arg1) :=
  (dats (F := F) m ρ 0 c).arrAt_in (1 : Fin 5) rfl _
theorem finalA_2 (c : Dev nD) : finalA m ρ c (2 : Fin 5) = m ((c : Thread nD τ).loc main_arg2) :=
  (dats (F := F) m ρ 0 c).arrAt_in (2 : Fin 5) rfl _
theorem finalA_3 (c : Dev nD) : finalA m ρ c (3 : Fin 5) = m ((c : Thread nD τ).loc main_arg3) :=
  (dats (F := F) m ρ 0 c).arrAt_in (3 : Fin 5) rfl _

/-- A window's one block is its whole array: an index of the block is the same index of the array. -/
theorem emb_0 (t : Fin cfg0.N) (j : S4096x512.Idx) : (win0_0.blk t).view.emb j = j := by
  funext a; apply Fin.ext
  match a with
  | ⟨0, _⟩ => show 0 * 4096 + 1 * (j 0).val = (j 0).val; omega
  | ⟨1, _⟩ => show 0 * 512 + 1 * (j 1).val = (j 1).val; omega
theorem emb_1 (t : Fin cfg0.N) (j : S512x2048.Idx) : (win0_1.blk t).view.emb j = j := by
  funext a; apply Fin.ext
  match a with
  | ⟨0, _⟩ => show 0 * 512 + 1 * (j 0).val = (j 0).val; omega
  | ⟨1, _⟩ => show 0 * 2048 + 1 * (j 1).val = (j 1).val; omega
theorem emb_2 (t : Fin cfg0.N) (j : S1.Idx) : (win0_2.blk t).view.emb j = j := by
  funext a; apply Fin.ext
  match a with
  | ⟨0, _⟩ => show 0 * 1 + 1 * (j 0).val = (j 0).val; omega
theorem emb_3 (t : Fin cfg0.N) (j : S1.Idx) : (win0_3.blk t).view.emb j = j := by
  funext a; apply Fin.ext
  match a with
  | ⟨0, _⟩ => show 0 * 1 + 1 * (j 0).val = (j 0).val; omega
theorem emb_4 (t : Fin cfg0.N) (j : S4096x2048.Idx) : (win0_4.blk t).view.emb j = j := by
  funext a; apply Fin.ext
  match a with
  | ⟨0, _⟩ => show 0 * 4096 + 1 * (j 0).val = (j 0).val; omega
  | ⟨1, _⟩ => show 0 * 2048 + 1 * (j 1).val = (j 1).val; omega

theorem xstg_eq (c : Dev nD) : xstg m c = m ((c : Thread nD τ).loc main_arg0) := by
  funext j; exact congrArg (m ((c : Thread nD τ).loc main_arg0)) (emb_0 t₀ j)
theorem wstg_eq (c : Dev nD) : wstg m c = m ((c : Thread nD τ).loc main_arg1) := by
  funext j; exact congrArg (m ((c : Thread nD τ).loc main_arg1)) (emb_1 t₀ j)
theorem sxstg_eq (c : Dev nD) : sxstg m c = m ((c : Thread nD τ).loc main_arg2) := by
  funext j; exact congrArg (m ((c : Thread nD τ).loc main_arg2)) (emb_2 t₀ j)
theorem swstg_eq (c : Dev nD) : swstg m c = m ((c : Thread nD τ).loc main_arg3) := by
  funext j; exact congrArg (m ((c : Thread nD τ).loc main_arg3)) (emb_3 t₀ j)

/-- What the one point writes back is the whole of what the body leaves. -/
theorem flushed_4 (c : Dev nD) (X : OutC F) (hX : (dats m ρ 0 c).after (4 : Fin 5) t₀ = X) (t : Fin cfg0.N) :
    (dats m ρ 0 c).flushed (4 : Fin 5) t = ((cfg0.win (4 : Fin 5)).blk t).view.read (Elt F) X := by
  rw [fin_N t]
  funext j
  show (dats m ρ 0 c).after (4 : Fin 5) t₀ j = X ((win0_4.blk t₀).view.emb j)
  rw [hX, emb_4]

/-- The result after the run is what the steps leave in the output's buffer. -/
theorem finalA_4 (c : Dev nD) : finalA m ρ c (4 : Fin 5) = outC m 14 c := by
  obtain ⟨X, hX⟩ : ∃ X, outC m 14 c = X := ⟨_, rfl⟩
  have h4 := after_4 m ρ c
  rw [hX] at h4 ⊢
  exact (dats m ρ 0 c).arrAt_eq_of_cover (4 : Fin 5) X (fun t _ => flushed_4 m ρ c X h4 t) fun i =>
    ⟨t₀, flush0_4 _, by have h := (win0_4.blk t₀).view.emb_mem_set i; rwa [emb_4] at h⟩

/-- The run: the result is what the fourteen steps leave, the arguments are unchanged, every counter is zero. -/
theorem run : θ_run defs (onTc (τ := τ) (main (F := F))) ⟨m, fun _ => 0, ρ⟩ (fun r => (∀ c : Dev nD,
      r.2.mem ((c : Thread nD τ).loc main_v1) = outC m 14 c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun r h => ⟨fun c =>
      ⟨(h.1 c (4 : Fin 5)).trans (finalA_4 m ρ c), (h.1 c (0 : Fin 5)).trans (finalA_0 m ρ c), (h.1 c (1 : Fin 5)).trans (finalA_1 m ρ c),
        (h.1 c (2 : Fin 5)).trans (finalA_2 m ρ c), (h.1 c (3 : Fin 5)).trans (finalA_3 m ρ c)⟩, h.2⟩)
    (run_main m ρ)

end Cert.KernelIdeal.Hand

namespace Cert.Proof

open Idealize.ShloMosaic Idealize.SL.Sem

theorem quiescent_KernelIdeal : Cert.quiescent_KernelIdeal := fun m g _ =>
  (θ_run Cert.KernelIdeal.defs _ _).mono (fun _ h => ⟨fun c => (h.1 c).2, h.2⟩) (Cert.KernelIdeal.Hand.run m g)

/-! The program and its idealization are one text, so the same run is a run of both. -/

section Same
variable {F : FTy → Type} [FloatOps F]

theorem body_same : Cert.Kernel.cc0_body (F := F) = Cert.KernelIdeal.cc0_body (F := F) := rfl

theorem defs₀_same : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => dsimp only; rw [body_same]

theorem defs_same : Cert.Kernel.defs (F := F) = Cert.KernelIdeal.defs (F := F) := congrArg (Pipeline.defs Cert.Kernel.pcfgs) defs₀_same

theorem main_same : Cert.Kernel.main (F := F) = Cert.KernelIdeal.main (F := F) := rfl

end Same

theorem quiescent_Kernel : Cert.quiescent_Kernel := fun m g _ => by
  rw [defs_same, main_same]
  exact (θ_run Cert.KernelIdeal.defs _ _).mono (fun _ h => ⟨fun c => (h.1 c).2, h.2⟩) (Cert.KernelIdeal.Hand.run (F := Bits) m g)

end Cert.Proof

end
-- ==== Proof.Ref.lean ====
/- What the reference's one launch leaves in its result array, as a function of its four arguments, at any float values. -/
module

public import proofs.«01_k».proof.Proof.Gen.ReferenceIdeal.Value

@[expose] public section

noncomputable section

namespace Cert.ReferenceIdeal.Hand

open Idealize.ShloMosaic Idealize.ShloMosaic.TcCoe
open Idealize.SL.Sem
open Cert.ReferenceIdeal Cert.ReferenceIdeal.Gen Cert.ReferenceIdeal.Value

variable {F : FTy → Type} [FloatOps F]

/-- The only place of a scale. -/
def at0 : S1.Idx := fun a => match a with | ⟨0, _⟩ => ⟨0, Nat.one_pos⟩

theorem S1_eq (i : S1.Idx) : i = at0 := by
  funext a; apply Fin.ext
  match a with
  | ⟨0, h⟩ => have h1 : (i ⟨0, h⟩).val < 1 := (i ⟨0, h⟩).isLt; show (i ⟨0, h⟩).val = 0; omega

/-- The reference's result from its arguments. -/
def whole (x : Vec F S4096x4096 .fp8e4m3) (w : Vec F S4096x2048 .fp8e4m3) (sx sw : Vec F S1 .f32) : Vec F S4096x2048 .f32 :=
  k0_pay1 x w (sx at0) (sw at0)

theorem zeros2 : (![0, 0] : Fin 2 → Nat) = fun _ => 0 := funext fun a => by match a with | ⟨0, _⟩ => rfl | ⟨1, _⟩ => rfl

/-- The body's one store writes the whole of the output, from the whole of each argument. -/
theorem body_value (c : Dev nD) (a0 : Memref sig .tc .vmem S4096x4096 .fp8e4m3) (h0 : a0.IsWhole)
    (a1 : Memref sig .tc .vmem S4096x2048 .fp8e4m3) (h1 : a1.IsWhole) (a2 : Memref sig .tc .smem S1 .f32) (h2 : a2.IsWhole)
    (a3 : Memref sig .tc .smem S1 .f32) (h3 : a3.IsWhole) (a4 : Memref sig .tc .vmem S4096x2048 .f32) (h4 : a4.IsWhole)
    (x : Vec F S4096x4096 .fp8e4m3) (w : Vec F S4096x2048 .fp8e4m3) (sx sw : Vec F S1 .f32) :
    out0_A_4 c a0 h0 a1 h1 a2 h2 a3 h3 a4 h4 x w sx sw = whole x w sx sw := by
  unfold out0_A_4
  rw [View.read_writes_junk_eq_canon]
  show View.canon ([⟨Rect.unit ![0, 0] S4096x2048.size inb_S4096x2048_S4096x2048_0_0, k0_pay1
      (View.readAt (Elt F) a0.view (Rect.unit ![0, 0] S4096x4096.size inb_S4096x4096_S4096x4096_0_0).toLoadRect (h0.unread x))
      (View.readAt (Elt F) a1.view (Rect.unit ![0, 0] S4096x2048.size inb_S4096x2048_S4096x2048_0_0).toLoadRect (h1.unread w))
      (View.readAt (Elt F) a2.view (Rect.unit (s := S1) ![0] S1.size inb_S1_S1_0).toLoadRect (h2.unread sx) _)
      (View.readAt (Elt F) a3.view (Rect.unit (s := S1) ![0] S1.size inb_S1_S1_0).toLoadRect (h3.unread sw) _)⟩] :
      List (View.Piece (Elt F) S4096x2048 .f32)) = _
  rw [View.canon_unit_zero zeros2, View.readAt_eq_ld, View.readAt_eq_ld, View.readAt_eq_ld, View.readAt_eq_ld, h0.read_unread,
    h1.read_unread, h2.read_unread, h3.read_unread, View.ld_unit_zero zeros2, View.ld_unit_zero zeros2]
  exact congrArg₂ (k0_pay1 x w) (congrArg sx (S1_eq _)) (congrArg sw (S1_eq _))

variable (m : (ℓ : Loc nD τ sig) → Buf (Elt F) ℓ) (ρ : Dev nD → PrngReg)

/-! A window's one block is its whole array. -/

theorem emb_0 (t : Fin cfg0.N) (j : S4096x4096.Idx) : (win0_0.blk t).view.emb j = j := by
  funext a; apply Fin.ext
  match a with
  | ⟨0, _⟩ => show 0 * 4096 + 1 * (j 0).val = (j 0).val; omega
  | ⟨1, _⟩ => show 0 * 4096 + 1 * (j 1).val = (j 1).val; omega
theorem emb_1 (t : Fin cfg0.N) (j : S4096x2048.Idx) : (win0_1.blk t).view.emb j = j := by
  funext a; apply Fin.ext
  match a with
  | ⟨0, _⟩ => show 0 * 4096 + 1 * (j 0).val = (j 0).val; omega
  | ⟨1, _⟩ => show 0 * 2048 + 1 * (j 1).val = (j 1).val; omega
theorem emb_2 (t : Fin cfg0.N) (j : S1.Idx) : (win0_2.blk t).view.emb j = j := (S1_eq _).trans (S1_eq j).symm
theorem emb_3 (t : Fin cfg0.N) (j : S1.Idx) : (win0_3.blk t).view.emb j = j := (S1_eq _).trans (S1_eq j).symm
theorem emb_4 (t : Fin cfg0.N) (j : S4096x2048.Idx) : (win0_4.blk t).view.emb j = j := by
  funext a; apply Fin.ext
  match a with
  | ⟨0, _⟩ => show 0 * 4096 + 1 * (j 0).val = (j 0).val; omega
  | ⟨1, _⟩ => show 0 * 2048 + 1 * (j 1).val = (j 1).val; omega

theorem block_0 (c : Dev nD) (t : Fin cfg0.N) : iblk m c 0 t = m ((c : Thread nD τ).loc main_arg0) := by
  rw [← V_main_arg0 m c]; funext j; exact congrArg (V m c main_arg0) (emb_0 t j)
theorem block_1 (c : Dev nD) (t : Fin cfg0.N) : iblk m c 1 t = m ((c : Thread nD τ).loc main_arg1) := by
  rw [← V_main_arg1 m c]; funext j; exact congrArg (V m c main_arg1) (emb_1 t j)
theorem block_2 (c : Dev nD) (t : Fin cfg0.N) : iblk m c 2 t = m ((c : Thread nD τ).loc main_arg2) := by
  rw [← V_main_arg2 m c]; funext j; exact congrArg (V m c main_arg2) (emb_2 t j)
theorem block_3 (c : Dev nD) (t : Fin cfg0.N) : iblk m c 3 t = m ((c : Thread nD τ).loc main_arg3) := by
  rw [← V_main_arg3 m c]; funext j; exact congrArg (V m c main_arg3) (emb_3 t j)

/-- The result, from the arguments as they stand at the launch. -/
def answer (c : Dev nD) : Vec F S4096x2048 .f32 :=
  whole (m ((c : Thread nD τ).loc main_arg0)) (m ((c : Thread nD τ).loc main_arg1)) (m ((c : Thread nD τ).loc main_arg2))
    (m ((c : Thread nD τ).loc main_arg3))

theorem flushed (c : Dev nD) (t : Fin cfg0.N) :
    (dats m 0 c).flushed 4 t = ((cfg0.win 4).blk t).view.read (Elt F) (answer m c) := by
  rw [flushed4_A, body_value, block_0, block_1, block_2, block_3]
  funext j
  show answer m c j = answer m c ((win0_4.blk t).view.emb j)
  rw [emb_4]

theorem final (c : Dev nD) : (dats m 0 c).arrAt 4 cfg0.N = answer m c :=
  (dats m 0 c).arrAt_eq_of_cover 4 (answer m c) (fun t _ => flushed m c t) fun i =>
    ⟨⟨0, by decide⟩, flush0_4 _, by have h := (win0_4.blk ⟨0, by decide⟩).view.emb_mem_set i; rwa [emb_4] at h⟩

/-- The reference's run: the result is the answer, the arguments are unchanged. -/
theorem run : θ_run defs (onTc (τ := τ) (main (F := F))) ⟨m, fun _ => 0, ρ⟩ fun r => ∀ c : Dev nD,
      r.2.mem ((c : Thread nD τ).loc main_v0) = answer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.ReferenceIdeal.Hand

end
-- ==== Proof.Value.lean ====
/- Over the extended reals the result of the eight devices is the reference's: each element is the sum of eight partial
   products, which is the whole product, scaled and activated. -/
module

public import proofs.«01_k».proof.Proof.Chunks
public import proofs.«01_k».proof.Proof.Final
public import proofs.«01_k».proof.Proof.Ref
public import Idealize.ShloMosaic.Lib.MatmulPlain
public import Idealize.ShloMosaic.Lib.Layout
public import Idealize.ShloMosaic.Lib.IdealHost

@[expose] public section

noncomputable section

namespace Cert.KernelIdeal.Hand

open Idealize.ShloMosaic Idealize.ShloMosaic.TcCoe Idealize.ShloMosaic.ValueIdx
open Idealize.SL.Sem
open Cert.KernelIdeal Cert.KernelIdeal.Gen
open scoped BigOperators

/-! ## The activation -/

/-- The logistic function's divisor is not zero. -/
theorem divisor_ne_zero (y : EReal) : 1 + Ideal.exp (-y) ≠ 0 := by
  have h : 0 ≤ Ideal.exp (-y) := by
    induction (-y) using EReal.rec with
    | bot => exact le_rfl
    | coe r => exact EReal.coe_nonneg.mpr (Real.exp_pos r).le
    | top => exact le_top
  exact (lt_of_lt_of_le zero_lt_one (le_add_of_nonneg_right h)).ne'

/-- A number times its logistic is the number over the logistic's divisor. -/
theorem mul_logistic (y : EReal) : y * Ideal.logistic y = Ideal.div y (1 + Ideal.exp (0 - y)) := by
  rw [zero_sub]
  unfold Ideal.logistic Ideal.div
  rw [if_neg (divisor_ne_zero y), if_neg (divisor_ne_zero y), one_mul]

/-- Where the exponent's argument is within the limits, cutting it off at them changes nothing. -/
theorem mul_logistic_clip (y : EReal) (lo : -60 ≤ y) (hi : y ≤ 60) :
    y * Ideal.logistic y = Ideal.div y (1 + Ideal.exp (0 - min (max y (-60)) 60)) := by
  rw [max_eq_left lo, min_eq_left hi, mul_logistic]

/-! ## A partial product, and the sum round the ring -/

theorem pay1_apply (x : Vec Ideal S4096x512 .fp8e4m3) (w : Vec Ideal S512x2048 .fp8e4m3) (r : Fin 4096) (l : Fin 2048) :
    k0_pay1 (F := Ideal) x w (ix2 r l) = ∑ q : Fin 512, x (ix2 r q) * w (ix2 q l) := by
  unfold k0_pay1
  rw [shapeCast_self, shapeCast_self]
  refine (Ideal.matmul_plain_apply (M := 4096) (K := 512) (N := 2048) none _ _ _ r l).trans ?_
  exact (congrArg (· + _) Ideal.ofBits_zero_f32).trans (zero_add _)

/-- The sum over a device and its seven left neighbours, one after the other, is the sum over all devices. -/
theorem ring_sum (g : Dev nD → EReal) (c : Dev nD) :
    g c + (g (prv c) + (g (prv (prv c)) + (g (prv (prv (prv c))) + (g (prv (prv (prv (prv c))))
      + (g (prv (prv (prv (prv (prv c))))) + (g (prv (prv (prv (prv (prv (prv c))))))
      + g (prv (prv (prv (prv (prv (prv (prv c)))))))))))))
    = ∑ d : Fin 8, g d := by
  have p (n k : ℕ) (hn : n < 8) (hk : k < 8) (h : (n + 7) % 8 = k) : prv ⟨n, hn⟩ = ⟨k, hk⟩ := Fin.ext h
  have p0 := p 0 7 (by decide) (by decide) rfl
  have p1 := p 1 0 (by decide) (by decide) rfl
  have p2 := p 2 1 (by decide) (by decide) rfl
  have p3 := p 3 2 (by decide) (by decide) rfl
  have p4 := p 4 3 (by decide) (by decide) rfl
  have p5 := p 5 4 (by decide) (by decide) rfl
  have p6 := p 6 5 (by decide) (by decide) rfl
  have p7 := p 7 6 (by decide) (by decide) rfl
  have e : ∑ d : Fin 8, g d = g ⟨0, by decide⟩ + g ⟨1, by decide⟩ + g ⟨2, by decide⟩ + g ⟨3, by decide⟩ + g ⟨4, by decide⟩
      + g ⟨5, by decide⟩ + g ⟨6, by decide⟩ + g ⟨7, by decide⟩ := Fin.sum_univ_eight g
  obtain ⟨n, hn⟩ := c
  have hn' : n < 8 := hn
  rw [e]
  interval_cases n <;> simp only [p0, p1, p2, p3, p4, p5, p6, p7] <;> ac_rfl

section
variable (m : (ℓ : Loc nD τ sig) → Buf (Elt Ideal) ℓ)

theorem acc_apply (k : ℕ) (c : Dev nD) (i : S512x2048.Idx) :
    acc m k 7 c i = Finset.sum (M := EReal) (Finset.univ : Finset (Fin 8)) fun d => outC m 0 d (pos k i) :=
  ring_sum (fun d => outC m 0 d (pos k i)) c

/-- A sum over eight blocks of 512 is a sum over 4096. -/
theorem sum_blocks (f : Fin 4096 → EReal) :
    ∑ d : Fin 8, ∑ q : Fin 512, f ⟨d.val * 512 + q.val, by omega⟩ = ∑ k : Fin 4096, f k := by
  rw [← Fintype.sum_prod_type' (fun (d : Fin 8) (q : Fin 512) => f ⟨d.val * 512 + q.val, by omega⟩)]
  refine Fintype.sum_equiv (finProdFinEquiv (m := 8) (n := 512)) _ _ fun p => congrArg f (Fin.ext ?_)
  show p.1.val * 512 + p.2.val = p.2.val + 512 * p.1.val
  omega

/-! ## The whole -/

theorem whole_apply (x : Vec Ideal Cert.ReferenceIdeal.S4096x4096 .fp8e4m3) (w : Vec Ideal Cert.ReferenceIdeal.S4096x2048 .fp8e4m3)
    (sx sw : Vec Ideal Cert.ReferenceIdeal.S1 .f32) (r : Fin 4096) (l : Fin 2048) (y : EReal)
    (hy : y = (∑ k : Fin 4096, x (ix2 r k) * w (ix2 k l)) * (sx Cert.ReferenceIdeal.Hand.at0 * sw Cert.ReferenceIdeal.Hand.at0)) :
    Cert.ReferenceIdeal.Hand.whole (F := Ideal) x w sx sw (ix2 r l) = Ideal.div y (1 + Ideal.exp (0 - y)) := by
  have hm : FloatOps.matmul (DotDims.plain 4096 4096 2048) none (extf (F := Ideal) .f32 x Cert.ReferenceIdeal.Gen.bitsLt_fp8e4m3_f32)
      (extf (F := Ideal) .f32 w Cert.ReferenceIdeal.Gen.bitsLt_fp8e4m3_f32) (constant (F := Ideal) Cert.ReferenceIdeal.S4096x2048 .f32 0x00000000#32) (ix2 r l)
      = ∑ k : Fin 4096, x (ix2 r k) * w (ix2 k l) :=
    (Ideal.matmul_plain_apply (M := 4096) (K := 4096) (N := 2048) none _ _ _ r l).trans
      ((congrArg (· + _) Ideal.ofBits_zero_f32).trans (zero_add _))
  have h1 : Ideal.ofBits .f32 0x3F800000#32 = 1 := Ideal.ofBits_one_f32
  rw [← hm] at hy
  subst hy
  unfold Cert.ReferenceIdeal.Hand.whole Cert.ReferenceIdeal.Gen.k0_pay1
  show Ideal.div _ (Ideal.ofBits .f32 0x3F800000#32 + Ideal.exp (Ideal.ofBits .f32 0x00000000#32 - _)) = _
  rw [h1, Ideal.ofBits_zero_f32]
  rfl

/-- The product of the two scales is the same on every device. -/
theorem scale_eq (c : Dev nD) (sx sw : Vec Ideal S1 .f32) (hx : m ((c : Thread nD τ).loc main_arg2) = sx)
    (hw : m ((c : Thread nD τ).loc main_arg3) = sw) :
    (scale m c : EReal) = (sx Cert.ReferenceIdeal.Hand.at0 : EReal) * (sw Cert.ReferenceIdeal.Hand.at0 : EReal) := by
  unfold scale
  rw [sxstg_eq, swstg_eq, hx, hw]
  exact congrArg₂ (fun a b : EReal => a * b) (congrArg sx (Cert.ReferenceIdeal.Hand.S1_eq _)) (congrArg sw (Cert.ReferenceIdeal.Hand.S1_eq _))

/-- An element of a device's partial product, from the whole arguments. -/
theorem part_apply (x : Vec Ideal Cert.ReferenceIdeal.S4096x4096 .fp8e4m3) (w : Vec Ideal Cert.ReferenceIdeal.S4096x2048 .fp8e4m3)
    (d : Fin 8) (hx : m (((d : Dev nD) : Thread nD τ).loc main_arg0) = Layout.block ⟨2, ![4096, 512]⟩ ⟨2, ![4096, 4096]⟩ 1 8 d x)
    (hw : m (((d : Dev nD) : Thread nD τ).loc main_arg1) = Layout.block ⟨2, ![512, 2048]⟩ ⟨2, ![4096, 2048]⟩ 0 8 d w)
    (r : Fin 4096) (l : Fin 2048) : (outC m 0 d (ix2 r l) : EReal)
      = ∑ q : Fin 512, (x (ix2 r ⟨d.val * 512 + q.val, by omega⟩) : EReal) * (w (ix2 ⟨d.val * 512 + q.val, by omega⟩ l) : EReal) := by
  refine (congrFun (congrArg₂ (k0_pay1 (F := Ideal)) ((xstg_eq m d).trans hx) ((wstg_eq m d).trans hw)) (ix2 r l)).trans ?_
  refine (pay1_apply _ _ r l).trans (Finset.sum_congr rfl fun q _ => ?_)
  refine congrArg₂ (fun a b : EReal => a * b) (congrArg x (funext fun a => Fin.ext ?_)) (congrArg w (funext fun a => Fin.ext ?_))
  · match a with
    | ⟨0, _⟩ => rfl
    | ⟨1, _⟩ => rfl
  · match a with
    | ⟨0, _⟩ => rfl
    | ⟨1, _⟩ => rfl

/-- What the activation makes of an element. -/
theorem pay18_apply (s : EReal) (v : Vec Ideal S512x2048 .f32) (i : S512x2048.Idx) :
    (k0_pay18 (F := Ideal) s v i : EReal) = Ideal.div ((v i : EReal) * s) (1 + Ideal.exp (0 - (v i : EReal) * s)) := by
  unfold k0_pay18
  rw [shapeCast_self, ← mul_logistic]
  rfl

/-- Every device ends with the reference's result of the whole arguments. -/
theorem outC_final (x : Vec Ideal Cert.ReferenceIdeal.S4096x4096 .fp8e4m3) (w : Vec Ideal Cert.ReferenceIdeal.S4096x2048 .fp8e4m3)
    (sx sw : Vec Ideal Cert.ReferenceIdeal.S1 .f32)
    (hx : ∀ c : Dev nD, m ((c : Thread nD τ).loc main_arg0) = Layout.block ⟨2, ![4096, 512]⟩ ⟨2, ![4096, 4096]⟩ 1 8 c x)
    (hw : ∀ c : Dev nD, m ((c : Thread nD τ).loc main_arg1) = Layout.block ⟨2, ![512, 2048]⟩ ⟨2, ![4096, 2048]⟩ 0 8 c w)
    (hsx : ∀ c : Dev nD, m ((c : Thread nD τ).loc main_arg2) = sx) (hsw : ∀ c : Dev nD, m ((c : Thread nD τ).loc main_arg3) = sw)
    (c : Dev nD) : outC m 14 c = Cert.ReferenceIdeal.Hand.whole (F := Ideal) x w sx sw := by
  funext j
  obtain ⟨k, i, hj⟩ := exists_pos j
  obtain ⟨r, l, hr⟩ : ∃ (r : Fin 4096) (l : Fin 2048), j = ix2 r l := ⟨j 0, j 1, eq_ix2 j⟩
  have hsum : (acc m k 7 (owner k) i : EReal) = ∑ q : Fin 4096, (x (ix2 r q) : EReal) * (w (ix2 q l) : EReal) := by
    refine (acc_apply m k (owner k) i).trans ?_
    rw [hj, hr]
    exact (Finset.sum_congr (M := EReal) rfl fun d _ => part_apply m x w d (hx d) (hw d) r l).trans
      (sum_blocks fun q => (x (ix2 r q) : EReal) * (w (ix2 q l) : EReal))
  have hfin : outC m 14 c j = result m k i := hj ▸ element_final m c k i
  refine hfin.trans ((pay18_apply (scale m (owner k)) (acc m k 7 (owner k)) i).trans ?_)
  rw [hr]
  exact (whole_apply x w sx sw r l _ (congrArg₂ (fun a b : EReal => a * b) hsum (scale_eq m (owner k) sx sw (hsx _) (hsw _)))).symm

end

end Cert.KernelIdeal.Hand

namespace Cert.Proof

open Idealize.ShloMosaic Idealize.SL.Sem

theorem algebraic_KernelIdeal_ReferenceIdeal : Cert.algebraic_KernelIdeal_ReferenceIdeal := fun m g m' g' _ h =>
  ⟨Cert.ReferenceIdeal.Hand.answer m' 0,
    (θ_run Cert.KernelIdeal.defs _ _).mono (fun r hr c => ⟨((hr.1 c).1).trans
      (Cert.KernelIdeal.Hand.outC_final m _ _ _ _ (fun d => (h d).1) (fun d => (h d).2.1) (fun d => (h d).2.2.1) (fun d => (h d).2.2.2) c),
      (hr.1 c).2⟩) (Cert.KernelIdeal.Hand.run m g),
    (θ_run Cert.ReferenceIdeal.defs _ _).mono (fun r hr => hr 0) (Cert.ReferenceIdeal.Hand.run m' g')⟩

end Cert.Proof

end
-- ==== Proof.lean ====
module

public import proofs.«01_k».proof.Defs
public import proofs.«01_k».proof.Proof.Value
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import Idealize.ShloMosaic.Adequacy
public import Idealize.ShloMosaic.Init

@[expose] public section

noncomputable section

namespace Cert.Proof

open Idealize.ShloMosaic Idealize.SL.Sem Cert.Kernel

/-- All five claims: the frames of the kernel, of its idealization and of the reference, that the idealization is the kernel
    over the extended reals, and that kernel and reference compute the same array. -/
theorem claim : Cert.Claim :=
  ⟨Cert.Kernel.Gen.facts, Cert.KernelIdeal.Gen.facts, Cert.ReferenceIdeal.Gen.facts,
    quiescent_Kernel, quiescent_KernelIdeal, fun m ρ _ => Cert.ReferenceIdeal.Gen.frame m ρ, trivial,
    algebraic_KernelIdeal_ReferenceIdeal⟩

end Cert.Proof

end
